-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelX_KernelXIdeal : Prop :=
  True

def algebraic_KernelXIdeal_ReferenceXIdeal_on_scales [hKernelXIdeal : Cert.KernelXIdeal.Facts] [hReferenceXIdeal : Cert.ReferenceXIdeal.Facts] [hOn_scales : Cert.On_scales.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)) →
    ∃ (v0 : (c : Dev Cert.KernelXIdeal.nD) → Buf (Elt Ideal) ((c.tc : Thread Cert.KernelXIdeal.nD Cert.KernelXIdeal.τ).loc Cert.KernelXIdeal.main_v2_0)) (v1 : (c : Dev Cert.KernelXIdeal.nD) → Buf (Elt Ideal) ((c.tc : Thread Cert.KernelXIdeal.nD Cert.KernelXIdeal.τ).loc Cert.KernelXIdeal.main_v2_1)) (v2 : (c : Dev Cert.KernelXIdeal.nD) → Buf (Elt Ideal) ((c.tc : Thread Cert.KernelXIdeal.nD Cert.KernelXIdeal.τ).loc Cert.KernelXIdeal.main_v2_2)) (v3 : (c : Dev Cert.KernelXIdeal.nD) → Buf (Elt Ideal) ((c.tc : Thread Cert.KernelXIdeal.nD Cert.KernelXIdeal.τ).loc Cert.KernelXIdeal.main_v2_3)) (v4 : (c : Dev Cert.KernelXIdeal.nD) → Buf (Elt Ideal) ((c.tc : Thread Cert.KernelXIdeal.nD Cert.KernelXIdeal.τ).loc Cert.KernelXIdeal.main_v2_4)) (v5 : (c : Dev Cert.KernelXIdeal.nD) → Buf (Elt Ideal) ((c.tc : Thread Cert.KernelXIdeal.nD Cert.KernelXIdeal.τ).loc Cert.KernelXIdeal.main_v2_5)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          (∀ i : (⟨2, ![6144, 16384]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).1 i = 1#1 → r.2.mem ((c.tc : Thread Cert.KernelXIdeal.nD Cert.KernelXIdeal.τ).loc Cert.KernelXIdeal.main_v2_0) i = v0 c i)
          ∧ (∀ i : (⟨2, ![1024, 6144]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.1 i = 1#1 → r.2.mem ((c.tc : Thread Cert.KernelXIdeal.nD Cert.KernelXIdeal.τ).loc Cert.KernelXIdeal.main_v2_1) i = v1 c i)
          ∧ (∀ i : (⟨2, ![8192, 6144]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.2.1 i = 1#1 → r.2.mem ((c.tc : Thread Cert.KernelXIdeal.nD Cert.KernelXIdeal.τ).loc Cert.KernelXIdeal.main_v2_2) i = v2 c i)
          ∧ (∀ i : (⟨2, ![1024, 6144]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.2.2.1 i = 1#1 → r.2.mem ((c.tc : Thread Cert.KernelXIdeal.nD Cert.KernelXIdeal.τ).loc Cert.KernelXIdeal.main_v2_3) i = v3 c i)
          ∧ (∀ i : (⟨2, ![1, 1]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.2.2.2.1 i = 1#1 → r.2.mem ((c.tc : Thread Cert.KernelXIdeal.nD Cert.KernelXIdeal.τ).loc Cert.KernelXIdeal.main_v2_4) i = v4 c i)
          ∧ (∀ i : (⟨2, ![1, 1]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.2.2.2.2 i = 1#1 → r.2.mem ((c.tc : Thread Cert.KernelXIdeal.nD Cert.KernelXIdeal.τ).loc Cert.KernelXIdeal.main_v2_5) i = v5 c i)
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          (∀ i : (⟨2, ![6144, 16384]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).1 i = 1#1 → r.2.mem ((c.tc : Thread Cert.ReferenceXIdeal.nD Cert.ReferenceXIdeal.τ).loc Cert.ReferenceXIdeal.main_v23_0) i = v0 c i)
          ∧ (∀ i : (⟨2, ![1024, 6144]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.1 i = 1#1 → r.2.mem ((c.tc : Thread Cert.ReferenceXIdeal.nD Cert.ReferenceXIdeal.τ).loc Cert.ReferenceXIdeal.main_v23_1) i = v1 c i)
          ∧ (∀ i : (⟨2, ![8192, 6144]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.2.1 i = 1#1 → r.2.mem ((c.tc : Thread Cert.ReferenceXIdeal.nD Cert.ReferenceXIdeal.τ).loc Cert.ReferenceXIdeal.main_v23_2) i = v2 c i)
          ∧ (∀ i : (⟨2, ![1024, 6144]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.2.2.1 i = 1#1 → r.2.mem ((c.tc : Thread Cert.ReferenceXIdeal.nD Cert.ReferenceXIdeal.τ).loc Cert.ReferenceXIdeal.main_v23_3) i = v3 c i)
          ∧ (∀ i : (⟨2, ![1, 1]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.2.2.2.1 i = 1#1 → r.2.mem ((c.tc : Thread Cert.ReferenceXIdeal.nD Cert.ReferenceXIdeal.τ).loc Cert.ReferenceXIdeal.main_v23_4) i = v4 c i)
          ∧ (∀ i : (⟨2, ![1, 1]⟩ : Shape).Idx, (Cert.On_scales.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2))).2.2.2.2.2 i = 1#1 → r.2.mem ((c.tc : Thread Cert.ReferenceXIdeal.nD Cert.ReferenceXIdeal.τ).loc Cert.ReferenceXIdeal.main_v23_5) i = v5 c i)
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2))

def Claim : Prop :=
  ∃ (hKernel : Cert.Kernel.Facts) (hKernelIdeal : Cert.KernelIdeal.Facts) (hReferenceIdeal : Cert.ReferenceIdeal.Facts) (hKernelX : Cert.KernelX.Facts) (hKernelXIdeal : Cert.KernelXIdeal.Facts) (hReferenceXIdeal : Cert.ReferenceXIdeal.Facts) (hOn_scales : Cert.On_scales.Facts),
    quiescent_Kernel (hKernel := hKernel)
    ∧ quiescent_KernelIdeal (hKernelIdeal := hKernelIdeal)
    ∧ quiescent_ReferenceIdeal (hReferenceIdeal := hReferenceIdeal)
    ∧ quiescent_KernelX (hKernelX := hKernelX)
    ∧ quiescent_KernelXIdeal (hKernelXIdeal := hKernelXIdeal)
    ∧ quiescent_ReferenceXIdeal (hReferenceXIdeal := hReferenceXIdeal)
    ∧ preserves_Kernel_KernelIdeal
    ∧ algebraic_KernelIdeal_ReferenceIdeal (hKernelIdeal := hKernelIdeal) (hReferenceIdeal := hReferenceIdeal)
    ∧ preserves_KernelX_KernelXIdeal
    ∧ algebraic_KernelXIdeal_ReferenceXIdeal_on_scales (hKernelXIdeal := hKernelXIdeal) (hReferenceXIdeal := hReferenceXIdeal) (hOn_scales := hOn_scales)
-- ==== On_scales.lean ====
abbrev S16384x6144 : Shape := ⟨2, ![16384, 6144]⟩
abbrev S16 : Shape := ⟨1, ![16]⟩
abbrev S1x24 : Shape := ⟨2, ![1, 24]⟩
abbrev S_ : Shape := ⟨0, ![]⟩
abbrev S6144x16384 : Shape := ⟨2, ![6144, 16384]⟩
abbrev S1024x6144 : Shape := ⟨2, ![1024, 6144]⟩
abbrev S8192x6144 : Shape := ⟨2, ![8192, 6144]⟩
abbrev S1x1 : Shape := ⟨2, ![1, 1]⟩

class Facts : Prop where
  bcast_S_S6144x16384 : S_.BroadcastsInDim S6144x16384 (![] : Fin 0 → Fin S6144x16384.rank)
  bcast_S_S1024x6144 : S_.BroadcastsInDim S1024x6144 (![] : Fin 0 → Fin S1024x6144.rank)
  bcast_S_S8192x6144 : S_.BroadcastsInDim S8192x6144 (![] : Fin 0 → Fin S8192x6144.rank)
  bcast_S_S1x1 : S_.BroadcastsInDim S1x1 (![] : Fin 0 → Fin S1x1.rank)

variable [Facts]

def fn {F : FTy → Type} [FloatOps F] (main_arg0 : FVec F S16384x6144 .bf16) (main_arg1 : FVec F S16 .f32) (main_arg2 : FVec F S1x24 .f32) : IVec S6144x16384 1 × IVec S1024x6144 1 × IVec S8192x6144 1 × IVec S1024x6144 1 × IVec S1x1 1 × IVec S1x1 1 :=
  let main_c : IVec S_ 1 := constantI S_ 1 0#1
  let main_v0 : IVec S6144x16384 1 := broadcastInDim S6144x16384 ![] bcast_S_S6144x16384 main_c
  let main_c_0 : IVec S_ 1 := constantI S_ 1 1#1
  let main_v1 : IVec S1024x6144 1 := broadcastInDim S1024x6144 ![] bcast_S_S1024x6144 main_c_0
  let main_c_1 : IVec S_ 1 := constantI S_ 1 0#1
  let main_v2 : IVec S8192x6144 1 := broadcastInDim S8192x6144 ![] bcast_S_S8192x6144 main_c_1
  let main_c_2 : IVec S_ 1 := constantI S_ 1 1#1
  let main_v3 : IVec S1024x6144 1 := broadcastInDim S1024x6144 ![] bcast_S_S1024x6144 main_c_2
  let main_c_3 : IVec S_ 1 := constantI S_ 1 1#1
  let main_v4 : IVec S1x1 1 := broadcastInDim S1x1 ![] bcast_S_S1x1 main_c_3
  let main_c_4 : IVec S_ 1 := constantI S_ 1 1#1
  let main_v5 : IVec S1x1 1 := broadcastInDim S1x1 ![] bcast_S_S1x1 main_c_4
  (main_v0, main_v1, main_v2, main_v3, main_v4, main_v5)
-- ==== Kernel.lean ====
abbrev S6144x16384 : Shape := ⟨2, ![6144, 16384]⟩
abbrev S16384x16384 : Shape := ⟨2, ![16384, 16384]⟩
abbrev S1x1 : Shape := ⟨2, ![1, 1]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S6144x16384, .bf16⟩
  | .hbm, ⟨1, _⟩ => ⟨S16384x16384, .bf16⟩
  | .hbm, ⟨2, _⟩ => ⟨S1x1, .f32⟩
  | .hbm, ⟨3, _⟩ => ⟨S1x1, .f32⟩
  | .hbm, ⟨4, _⟩ => ⟨S6144x16384, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1, .f32⟩
  | .local _ .vmem, ⟨5, _⟩ => ⟨S1x1, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![6, 16, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S6144x16384 : Shape := ⟨2, ![6144, 16384]⟩
abbrev S16384x16384 : Shape := ⟨2, ![16384, 16384]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S6144x16384, .bf16⟩
  | .hbm, ⟨1, _⟩ => ⟨S16384x16384, .bf16⟩
  | .hbm, ⟨2, _⟩ => ⟨S1x1, .f32⟩
  | .hbm, ⟨3, _⟩ => ⟨S1x1, .f32⟩
  | .hbm, ⟨4, _⟩ => ⟨S6144x16384, .f32⟩
  | .hbm, ⟨5, _⟩ => ⟨S1x1, .f32⟩
  | .hbm, ⟨6, _⟩ => ⟨S6144x16384, .f32⟩
  | .hbm, ⟨7, _⟩ => ⟨S6144x16384, .f32⟩
  | _, _ => ⟨S6144x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelX.lean ====
abbrev S16384x6144 : Shape := ⟨2, ![16384, 6144]⟩
abbrev S16 : Shape := ⟨1, ![16]⟩
abbrev S1x24 : Shape := ⟨2, ![1, 24]⟩
abbrev S_ : Shape := ⟨0, ![]⟩
abbrev S6144x16384 : Shape := ⟨2, ![6144, 16384]⟩
abbrev S1024x6144 : Shape := ⟨2, ![1024, 6144]⟩
abbrev S8192x6144 : Shape := ⟨2, ![8192, 6144]⟩
abbrev S1x1 : Shape := ⟨2, ![1, 1]⟩
abbrev S512x512 : Shape := ⟨2, ![512, 512]⟩
abbrev S32x512 : Shape := ⟨2, ![32, 512]⟩
abbrev S256x512 : Shape := ⟨2, ![256, 512]⟩
abbrev S4x144x128 : Shape := ⟨3, ![4, 144, 128]⟩
abbrev S4x136x128 : Shape := ⟨3, ![4, 136, 128]⟩
abbrev S4x8x128 : Shape := ⟨3, ![4, 8, 128]⟩
abbrev S32x128 : Shape := ⟨2, ![32, 128]⟩
abbrev S8x128 : Shape := ⟨2, ![8, 128]⟩
abbrev S1 : Shape := ⟨1, ![1]⟩
abbrev S16x128 : Shape := ⟨2, ![16, 128]⟩
abbrev S1x144x128 : Shape := ⟨3, ![1, 144, 128]⟩
abbrev S144x128 : Shape := ⟨2, ![144, 128]⟩
abbrev S1x136x128 : Shape := ⟨3, ![1, 136, 128]⟩
abbrev S136x128 : Shape := ⟨2, ![136, 128]⟩
abbrev S1x8x128 : Shape := ⟨3, ![1, 8, 128]⟩
abbrev S64x128 : Shape := ⟨2, ![64, 128]⟩
abbrev S8x8x128 : Shape := ⟨3, ![8, 8, 128]⟩
abbrev S8x1x128 : Shape := ⟨3, ![8, 1, 128]⟩
abbrev S1x128 : Shape := ⟨2, ![1, 128]⟩
abbrev S128x128 : Shape := ⟨2, ![128, 128]⟩
abbrev S1x1x1 : Shape := ⟨3, ![1, 1, 1]⟩

abbrev nBuf : Space → Nat
  | .hbm => 12
  | .vmem => 18
  | .smem => 1
  | _ => 0

abbrev bufTy : (tb : Table) → Fin (tcTables nBuf tb) → BufTy
  | .hbm, ⟨0, _⟩ => ⟨S16384x6144, .bf16⟩
  | .hbm, ⟨1, _⟩ => ⟨S16, .f32⟩
  | .hbm, ⟨2, _⟩ => ⟨S1x24, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S6144x16384, .bf16⟩
  | .hbm, ⟨7, _⟩ => ⟨S1024x6144, .f32⟩
  | .hbm, ⟨8, _⟩ => ⟨S8192x6144, .i8⟩
  | .hbm, ⟨9, _⟩ => ⟨S1024x6144, .fp8e4m3⟩
  | .hbm, ⟨10, _⟩ => ⟨S1x1, .f32⟩
  | .hbm, ⟨11, _⟩ => ⟨S1x1, .f32⟩
  | .local _ .vmem, ⟨0, _⟩ => ⟨S512x512, .bf16⟩
  | .local _ .vmem, ⟨1, _⟩ => ⟨S512x512, .bf16⟩
  | .local _ .vmem, ⟨2, _⟩ => ⟨S1x24, .f32⟩
  | .local _ .vmem, ⟨3, _⟩ => ⟨S512x512, .bf16⟩
  | .local _ .vmem, ⟨4, _⟩ => ⟨S512x512, .bf16⟩
  | .local _ .vmem, ⟨5, _⟩ => ⟨S32x512, .f32⟩
  | .local _ .vmem, ⟨6, _⟩ => ⟨S32x512, .f32⟩
  | .local _ .vmem, ⟨7, _⟩ => ⟨S256x512, .i8⟩
  | .local _ .vmem, ⟨8, _⟩ => ⟨S256x512, .i8⟩
  | .local _ .vmem, ⟨9, _⟩ => ⟨S32x512, .fp8e4m3⟩
  | .local _ .vmem, ⟨10, _⟩ => ⟨S32x512, .fp8e4m3⟩
  | .local _ .vmem, ⟨11, _⟩ => ⟨S1x1, .f32⟩
  | .local _ .vmem, ⟨12, _⟩ => ⟨S1x1, .f32⟩
  | .local _ .vmem, ⟨13, _⟩ => ⟨S4x144x128, .f32⟩
  | .local _ .vmem, ⟨14, _⟩ => ⟨S4x136x128, .f32⟩
  | .local _ .vmem, ⟨15, _⟩ => ⟨S4x8x128, .f32⟩
  | .local _ .vmem, ⟨16, _⟩ => ⟨S32x128, .f32⟩
  | .local _ .vmem, ⟨17, _⟩ => ⟨S8x128, .f32⟩
  | .local _ .smem, ⟨0, _⟩ => ⟨S16, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![12, 32], ![false, false]⟩

def k0_cond2 (i : grid0.Coords) : BitVec 1 :=
  let arg0 : BitVec 32 := BitVec.ofNat 32 (i 0).val
  let c11_i32 : BitVec 32 := 11#32
  let v3 : BitVec 1 := Scalar.cmpi .eq arg0 c11_i32
  let arg1 : BitVec 32 := BitVec.ofNat 32 (i 1).val
  let c31_i32 : BitVec 32 := 31#32
  let v4 : BitVec 1 := Scalar.cmpi .eq arg1 c31_i32
  let v5 : BitVec 1 := Scalar.andi v3 v4
  let v11396 : BitVec 32 := Scalar.extui v5
  let c0_i32_6637 : BitVec 32 := 0#32
  let v11397 : BitVec 1 := Scalar.cmpi .ne v11396 c0_i32_6637
  v11397

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceXIdeal.lean ====
abbrev S16384x6144 : Shape := ⟨2, ![16384, 6144]⟩
abbrev S16 : Shape := ⟨1, ![16]⟩
abbrev S1x24 : Shape := ⟨2, ![1, 24]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S1024x16x6144 : Shape := ⟨3, ![1024, 16, 6144]⟩
abbrev S1024x6144x16 : Shape := ⟨3, ![1024, 6144, 16]⟩
abbrev S6144x16384 : Shape := ⟨2, ![6144, 16384]⟩
abbrev S1024x6144 : Shape := ⟨2, ![1024, 6144]⟩
abbrev S8192x6144 : Shape := ⟨2, ![8192, 6144]⟩
abbrev S1x1 : Shape := ⟨2, ![1, 1]⟩
abbrev S1 : Shape := ⟨1, ![1]⟩
abbrev S1024x1x6144 : Shape := ⟨3, ![1024, 1, 6144]⟩
abbrev S8192x2x6144 : Shape := ⟨3, ![8192, 2, 6144]⟩
abbrev S8192x1x6144 : Shape := ⟨3, ![8192, 1, 6144]⟩
abbrev S1024 : Shape := ⟨1, ![1024]⟩
abbrev S1024x1 : Shape := ⟨2, ![1024, 1]⟩

abbrev nBuf : Space → Nat
  | .hbm => 39
  | .vmem => 8
  | .smem => 0
  | _ => 0

abbrev bufTy : (tb : Table) → Fin (tcTables nBuf tb) → BufTy
  | .hbm, ⟨0, _⟩ => ⟨S16384x6144, .bf16⟩
  | .hbm, ⟨1, _⟩ => ⟨S16, .f32⟩
  | .hbm, ⟨2, _⟩ => ⟨S1x24, .f32⟩
  | .hbm, ⟨3, _⟩ => ⟨S16, .i32⟩
  | .hbm, ⟨4, _⟩ => ⟨S16x1, .i32⟩
  | .hbm, ⟨5, _⟩ => ⟨S16, .i32⟩
  | .hbm, ⟨6, _⟩ => ⟨S1x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i1⟩
  | .hbm, ⟨17, _⟩ => ⟨S_, .f32⟩
  | .hbm, ⟨18, _⟩ => ⟨S_, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S1x16, .f32⟩
  | .hbm, ⟨24, _⟩ => ⟨S16x16, .f32⟩
  | .hbm, ⟨25, _⟩ => ⟨S16x16, .f32⟩
  | .hbm, ⟨26, _⟩ => ⟨S_, .f32⟩
  | .hbm, ⟨27, _⟩ => ⟨S16x16, .f32⟩
  | .hbm, ⟨28, _⟩ => ⟨S16x16, .f32⟩
  | .hbm, ⟨29, _⟩ => ⟨S16384x6144, .f32⟩
  | .hbm, ⟨30, _⟩ => ⟨S1024x16x6144, .f32⟩
  | .hbm, ⟨31, _⟩ => ⟨S1024x6144x16, .f32⟩
  | .hbm, ⟨32, _⟩ => ⟨S1024x16x6144, .f32⟩
  | .hbm, ⟨33, _⟩ => ⟨S6144x16384, .bf16⟩
  | .hbm, ⟨34, _⟩ => ⟨S1024x6144, .f32⟩
  | .hbm, ⟨35, _⟩ => ⟨S8192x6144, .i8⟩
  | .hbm, ⟨36, _⟩ => ⟨S1024x6144, .fp8e4m3⟩
  | .hbm, ⟨37, _⟩ => ⟨S1x1, .f32⟩
  | .hbm, ⟨38, _⟩ => ⟨S1x1, .f32⟩
  | .local _ .vmem, ⟨0, _⟩ => ⟨S1024x16x6144, .f32⟩
  | .local _ .vmem, ⟨1, _⟩ => ⟨S1x24, .f32⟩
  | .local _ .vmem, ⟨2, _⟩ => ⟨S6144x16384, .bf16⟩
  | .local _ .vmem, ⟨3, _⟩ => ⟨S1024x6144, .f32⟩
  | .local _ .vmem, ⟨4, _⟩ => ⟨S8192x6144, .i8⟩
  | .local _ .vmem, ⟨5, _⟩ => ⟨S1024x6144, .fp8e4m3⟩
  | .local _ .vmem, ⟨6, _⟩ => ⟨S1x1, .f32⟩
  | .local _ .vmem, ⟨7, _⟩ => ⟨S1x1, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev main_v23_5 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x16x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x6144 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Product.lean ====
/- The product call over the extended reals: what one grid point adds to the accumulator, what a block of the result
   holds when it is written back, and that the whole result is the reference's contraction times the two scales. -/
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Product

open Cert.KernelIdeal Cert.KernelIdeal.Gen Idealize.ShloMosaic Idealize.ShloMosaic.TcCoe Idealize.SL.Sem

variable (m : (ℓ : Loc nD τ sig) → Buf (Elt Ideal) ℓ)

/-- One point's contribution to the accumulator: the product of a block of the left operand with a block of the right. -/
def part (x : Vec Ideal S1024x2048 .bf16) (y : Vec Ideal S2048x1024 .bf16) (j : S1024x1024.Idx) : EReal :=
  ∑ k : Fin 2048, x (ix2 (j 0) k) * y (ix2 k (j 1))

theorem pay1_apply (j : S1024x1024.Idx) : k0_pay1 (F := Ideal) j = 0 := by
  unfold k0_pay1
  pointwise

theorem pay2_apply (a : Vec Ideal S1024x1024 .f32) (x : Vec Ideal S1024x2048 .bf16) (y : Vec Ideal S2048x1024 .bf16)
    (j : S1024x1024.Idx) : k0_pay2 (F := Ideal) a x y j = a j + part x y j := by
  unfold k0_pay2 part
  pointwise

theorem pay3_apply (a : Vec Ideal S1024x1024 .f32) (x : Vec Ideal S1x1 .f32) (y : Vec Ideal S1x1 .f32)
    (j : S1024x1024.Idx) : k0_pay3 (F := Ideal) a x y j = a j * (x (ix2 0 0) * y (ix2 0 0)) := by
  unfold k0_pay3
  pointwise

/-- The accumulator at a block's last point: the eight blocks' products, summed. -/
theorem acc_eq (c : Dev nD) (t : Fin cfg0.N) (hr : t.val % 8 = 7) (j : S1024x1024.Idx) :
    (outsAt0 m c t.val t.isLt).2 j = 0 + ∑ s : Fin 8, part
      (iblk m c 0 ⟨8 * (t.val / 8) + s.val, Pipeline.run_point_lt_of_flush t hr s⟩)
      (iblk m c 1 ⟨8 * (t.val / 8) + s.val, Pipeline.run_point_lt_of_flush t hr s⟩) j := by
  refine Pipeline.eq_sum_fin_of_reset_step_apply_of_flush (fun n h => (outsAt0 m c n h).2) 8 (fun _ => (0 : EReal))
    (fun t => part (iblk m c 0 t) (iblk m c 1 t)) ?_ ?_ t hr j
  · intro t h i
    have h7 : ¬ t.val % 8 = 7 := by omega
    rw [outsAt0_A m c t h h7]
    frame_out
    rw [pay2_apply, pay1_apply]
  · intro t h i
    by_cases h7 : t.val % 8 = 7
    · rw [outsAt0_C m c t h h7]
      frame_out
      simp only [read_unread_whole]
      rw [pay2_apply]
    · rw [outsAt0_B m c t h h7]
      frame_out
      simp only [read_unread_whole]
      rw [pay2_apply]

/-- The blocks each point reads and writes, read off the printed index maps. -/
theorem idx : ∀ t : Fin cfg0.N, win0_0.index t = ![t.val / 128, t.val % 8] ∧ win0_1.index t = ![t.val % 8, t.val / 8 % 16]
    ∧ win0_2.index t = ![0, 0] ∧ win0_3.index t = ![0, 0] ∧ win0_4.index t = ![t.val / 128, t.val / 8 % 16] :=
  (by decide +kernel : ∀ t : Fin grid0.N, _)

/-- The result as one function of the arguments: the whole contraction, times the product of the two scales. -/
def G (x : FVec Ideal S6144x16384 .bf16) (y : FVec Ideal S16384x16384 .bf16) (xs ys : FVec Ideal S1x1 .f32) :
    FVec Ideal S6144x16384 .f32 := fun i =>
  (∑ k : Fin 16384, x (ix2 (i 0) k) * y (ix2 k (i 1))) * (xs (ix2 0 0) * ys (ix2 0 0))

/-- The result array after the run is `G` of the arguments. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have hr : t.val % 8 = 7 := (flush0_4 t).mp hf
  have h0 : ¬ t.val % 8 = 0 := by omega
  have hN : t.val < 768 := lt_of_lt_of_eq t.isLt N_0
  have e : k0_pay2 (outsAt0 m c (t.val - 1) (Nat.lt_of_le_of_lt (Nat.sub_le _ _) t.isLt)).2 (iblk m c 0 t) (iblk m c 1 t) y
      = _ := Eq.trans (by
        rw [outsAt0_C m c t h0 hr]
        frame_out
        simp only [read_unread_whole]) (acc_eq m c t hr y)
  blk_simp
  rw [after0_4, outsAt0_C m c t h0 hr]
  frame_out
  simp only [read_unread_whole]
  rw [pay3_apply, e, zero_add]
  unfold G part
  have hx : (iblk m c 2 t : Vec Ideal S1x1 .f32) (ix2 0 0) = m ((c : Thread nD τ).loc main_arg2) (ix2 0 0) := by
    blk_ext [iblk, V, idx t]
  have hy : (iblk m c 3 t : Vec Ideal S1x1 .f32) (ix2 0 0) = m ((c : Thread nD τ).loc main_arg3) (ix2 0 0) := by
    blk_ext [iblk, V, idx t]
  rw [hx, hy]
  refine congrArg (fun z : EReal => z * _) ?_
  refine Fin.sum_mul_add_congr fun s k hl => ?_
  have e1 := idx ⟨8 * (t.val / 8) + s.val, Pipeline.run_point_lt_of_flush t hr s⟩
  congr 1 <;> blk_ext [iblk, V, idx t, e1]

/-- The reference's composed term is the same function. -/
theorem ref_eq (x : FVec Ideal S6144x16384 .bf16) (y : FVec Ideal S16384x16384 .bf16) (xs ys : FVec Ideal S1x1 .f32) :
    mulf (Host.dotGeneral Cert.ReferenceIdeal.dot_S6144x16384_S16384x16384_S6144x16384_1_0_0_1_n_n none x y)
      (broadcastInDim S6144x16384 ![0, 1] Cert.ReferenceIdeal.Gen.bcast_S1x1_S6144x16384_0_1 (mulf xs ys)) = G x y xs ys := by
  funext i
  unfold G
  pointwise

end Cert.Product

end
-- ==== Proof.Loads.lean ====
/- What the quantiser's loads from its scratch hold: rows scattered at a stride, read back tile by tile. -/
module

public import proofs.«01_k».proof.Proof.Gen.KernelXIdeal.Skeleton
public import Idealize.ShloMosaic.Lib.Pipeline.CanonAppend
public import Idealize.ShloMosaic.Lib.Pipeline.ReadBack
public import Idealize.ShloMosaic.Lib.Pipeline.ValueKit
public import Idealize.ShloMosaic.Lib.Exec

@[expose] public section

set_option maxRecDepth 16384

noncomputable section

namespace Cert.Loads

open Cert.KernelXIdeal Cert.KernelXIdeal.Gen Idealize.ShloMosaic Idealize.ShloMosaic.TcCoe Idealize.SL.Sem

variable {Val : EltTy → Type} [∀ e, Nonempty (Val e)]

theorem inbS {u : ℕ} (hu : u < 4) : ∀ a, (![u, 0, 0] : Fin 3 → ℕ) a + S1x144x128.size a ≤ S4x144x128.size a := by
  intro a; fin_cases a <;> simp <;> omega

theorem inbG {g : ℕ} (hg : g < 8) : ∀ a, S16x128.size a = 0 ∨
    (![g, 0] : Fin 2 → ℕ) a + (![9, 1] : Fin 2 → ℕ) a * (S16x128.size a - 1) < S144x128.size a := by
  intro a; fin_cases a <;> simp <;> omega

theorem inbT {j : ℕ} (hj : j < 16) : ∀ a, (![9 * j, 0] : Fin 2 → ℕ) a + S8x128.size a ≤ S144x128.size a := by
  intro a; fin_cases a <;> simp <;> omega

theorem sz2 {a b : ℕ} (i : Fin 2) : (![1, a, b] : Fin 3 → ℕ) i.succ = (![a, b] : Fin 2 → ℕ) i := by
  fin_cases i <;> rfl

/-- Rows `g, g + 9, …` of one slot. -/
abbrev strip (g : ℕ) (hg : g < 8) : Rect S144x128 := ⟨⟨![g, 0], S16x128.size, ![9, 1], inbG hg⟩, spos_9_1⟩

abbrev strip' (g : ℕ) (hg : g < 8) : Rect S1x144x128 := (strip g hg).consLift ![1, 144, 128] rfl sz2

abbrev slot (u : ℕ) (hu : u < 4) : Rect S4x144x128 := Rect.unit (s := S4x144x128) ![u, 0, 0] S1x144x128.size (inbS hu)

/-- Rows `g, g + 9, …` of slot `u`, holding the sixteen rows `p`. -/
abbrev spread (u g : ℕ) (hu : u < 4) (hg : g < 8) (p : S16x128.Idx → Val .f32) : View.Piece Val S4x144x128 .f32 :=
  ⟨(slot u hu).within (strip' g hg) (fun _ => rfl),
    Rect.payAlong (R := strip' g hg) (r := strip g hg) (Rect.numel_consLift _ _ _ _) p⟩

/-- Rows `9 j … 9 j + 7` of slot `u`. -/
abbrev tile2 (j : ℕ) (hj : j < 16) : LoadRect S144x128 := (Rect.unit (s := S144x128) ![9 * j, 0] S8x128.size (inbT hj)).toLoadRect

abbrev tile' (j : ℕ) (hj : j < 16) : LoadRect S1x144x128 := (tile2 j hj).consLift ![1, 144, 128] rfl sz2

abbrev tile (u j : ℕ) (hu : u < 4) (hj : j < 16) : LoadRect S4x144x128 := (slot u hu).withinL (tile' j hj) (fun _ => rfl)

/-- What the scratch holds in a slot eight groups were scattered into. -/
def held (P : Fin 8 → S16x128.Idx → Val .f32) (y : S4x144x128.Idx) : Val .f32 :=
  if h : (y 1).val % 9 < 8 ∧ (y 1).val / 9 < 16 then P ⟨(y 1).val % 9, h.1⟩ (ix2 ⟨(y 1).val / 9, h.2⟩ (y 2))
  else Classical.ofNonempty

theorem held_apply (P : Fin 8 → S16x128.Idx → Val .f32) (y : S4x144x128.Idx) (g r : ℕ) (hg : g < 8) (hr : r < 16)
    (h : (y 1).val = 9 * r + g) : held P y = P ⟨g, hg⟩ (ix2 ⟨r, hr⟩ (y 2)) := by
  have a : (y 1).val % 9 = g := by omega
  have b : (y 1).val / 9 = r := by omega
  unfold held
  rw [dif_pos ⟨by omega, by omega⟩]
  subst a b
  rfl

theorem spread_held (P : Fin 8 → S16x128.Idx → Val .f32) (u g : ℕ) (hu : u < 4) (hg : g < 8)
    (x : (spread (Val := Val) u g hu hg (P ⟨g, hg⟩)).1.shape.Idx) :
    (spread u g hu hg (P ⟨g, hg⟩)).2 x = held P ((spread (Val := Val) u g hu hg (P ⟨g, hg⟩)).1.emb x) := by
  have hx0 : (x 0).val < 1 := (x 0).isLt
  have hx : (x 1).val < 16 := (x 1).isLt
  have h1 : (((spread (Val := Val) u g hu hg (P ⟨g, hg⟩)).1.emb x) 1).val = g + 9 * (x 1).val := by
    rw [Rect.emb_apply]; show 0 + g + 9 * (x 1).val = _; omega
  have h2 : (((spread (Val := Val) u g hu hg (P ⟨g, hg⟩)).1.emb x) 2).val = (x 2).val := by
    rw [Rect.emb_apply]; show 0 + 0 + 1 * (x 2).val = _; omega
  rw [held_apply P _ g (x 1).val hg hx (h1.trans (by omega))]
  refine Rect.payAlong_consLift (strip g hg) _ rfl sz2 (P ⟨g, hg⟩) _ x _ fun i => ?_
  fin_cases i
  · rfl
  · exact h2

theorem tile_mem (u j : ℕ) (hu : u < 4) (hj : j < 16) (x : (tile u j hu hj).shape.Idx) (p : S16x128.Idx → Val .f32)
    (g : ℕ) (hg : g < 8) (h : (x 1).val = g) :
    (tile u j hu hj).idx x ∈ (spread (Val := Val) u g hu hg p).1.set := by
  have hx0 : (x 0).val < 1 := (x 0).isLt
  have hx2 : (x 2).val < 128 := (x 2).isLt
  refine (LoadRect.mem_set _).mpr fun a => ?_
  fin_cases a
  · refine ⟨0, Nat.one_pos, ?_⟩
    show u + 0 + 1 * (x 0).val = u + 0 + 1 * 0; omega
  · refine ⟨j, hj, ?_⟩
    show 0 + 9 * j + 1 * (x 1).val = 0 + g + 9 * j; omega
  · refine ⟨(x 2).val, hx2, ?_⟩
    show 0 + 0 + 1 * (x 2).val = 0 + 0 + 1 * (x 2).val; rfl

/-- Eight groups scattered into a slot, read back a tile of eight rows: row `j` of each group. -/
theorem tile_load {sig : RefSig} {κ : Kind} {sp : Space} (v : View sig κ sp S4x144x128 .f32) (u j : ℕ) (hu : u < 4) (hj : j < 16)
    (P : Fin 8 → S16x128.Idx → Val .f32) (L : List (View.Piece Val S4x144x128 .f32))
    (hR : S8x128.numel = (tile u j hu hj).shape.numel) :
    (fun x : S8x128.Idx => v.readCov (spread u 7 hu (by decide) (P 7) :: spread u 6 hu (by decide) (P 6) :: spread u 5 hu (by decide) (P 5)
      :: spread u 4 hu (by decide) (P 4) :: spread u 3 hu (by decide) (P 3) :: spread u 2 hu (by decide) (P 2)
      :: spread u 1 hu (by decide) (P 1) :: spread u 0 hu (by decide) (P 0) :: L) (tile u j hu hj) (Shape.reshapeEquiv hR x))
      = fun x => P (x 0) (ix2 ⟨j, hj⟩ (x 1)) := by
  funext x
  rw [View.readCov_eq_canon']
  have e : Shape.reshapeEquiv hR x = (Fin.cons ⟨0, Nat.one_pos⟩ x : (tile u j hu hj).shape.Idx) := Shape.reshapeEquiv_cons_one _ x
  have key := View.canon_append_of_pieces (held P) L
    [spread u 7 hu (by decide) (P 7), spread u 6 hu (by decide) (P 6), spread u 5 hu (by decide) (P 5),
      spread u 4 hu (by decide) (P 4), spread u 3 hu (by decide) (P 3), spread u 2 hu (by decide) (P 2),
      spread u 1 hu (by decide) (P 1), spread u 0 hu (by decide) (P 0)]
    (by
      intro p hp
      simp only [List.mem_cons, List.not_mem_nil, or_false] at hp
      rcases hp with rfl | rfl | rfl | rfl | rfl | rfl | rfl | rfl
      · exact spread_held P u 7 hu (by decide)
      · exact spread_held P u 6 hu (by decide)
      · exact spread_held P u 5 hu (by decide)
      · exact spread_held P u 4 hu (by decide)
      · exact spread_held P u 3 hu (by decide)
      · exact spread_held P u 2 hu (by decide)
      · exact spread_held P u 1 hu (by decide)
      · exact spread_held P u 0 hu (by decide))
    ((tile u j hu hj).idx (Shape.reshapeEquiv hR x))
    (by
      have hm := fun (p : S16x128.Idx → Val .f32) (g : ℕ) (hg : g < 8) => tile_mem (Val := Val) u j hu hj (Shape.reshapeEquiv hR x) p g hg
      have h1 : ((Shape.reshapeEquiv hR x : (tile u j hu hj).shape.Idx) 1).val = (x 0).val := by rw [e]; rfl
      have h0 : (x 0).val < 8 := (x 0).isLt
      simp only [List.exists_mem_cons_iff]
      generalize hq : (x 0).val = q at *
      interval_cases q
      · exact .inr (.inr (.inr (.inr (.inr (.inr (.inr (.inl (hm (P 0) _ (by decide) h1))))))))
      · exact .inr (.inr (.inr (.inr (.inr (.inr (.inl (hm (P 1) _ (by decide) h1)))))))
      · exact .inr (.inr (.inr (.inr (.inr (.inl (hm (P 2) _ (by decide) h1))))))
      · exact .inr (.inr (.inr (.inr (.inl (hm (P 3) _ (by decide) h1)))))
      · exact .inr (.inr (.inr (.inl (hm (P 4) _ (by decide) h1))))
      · exact .inr (.inr (.inl (hm (P 5) _ (by decide) h1)))
      · exact .inr (.inl (hm (P 6) _ (by decide) h1))
      · exact .inl (hm (P 7) _ (by decide) h1))
  refine Eq.trans key ?_
  have h0 : (x 0).val < 8 := (x 0).isLt
  have i1 : ((tile u j hu hj).idx (Shape.reshapeEquiv hR x) 1).val = 9 * j + (x 0).val := by
    rw [LoadRect.idx_apply, e]; show 0 + 9 * j + 1 * (x 0).val = _; omega
  have i2 : ((tile u j hu hj).idx (Shape.reshapeEquiv hR x) 2).val = (x 1).val := by
    rw [LoadRect.idx_apply, e]; show 0 + 0 + 1 * (x 1).val = _; omega
  rw [held_apply P _ (x 0).val j h0 hj i1]
  have e3 : ((tile u j hu hj).idx (Shape.reshapeEquiv hR x) 2) = x 1 := Fin.ext i2
  rw [e3]
  rfl

end Cert.Loads

end
-- ==== Proof.LoadsW.lean ====
/- What the quantiser's loads from its scratch hold: rows scattered at a stride, read back tile by tile. -/
module

public import proofs.«01_k».proof.Proof.Gen.KernelXIdeal.Skeleton
public import Idealize.ShloMosaic.Lib.Pipeline.CanonAppend
public import Idealize.ShloMosaic.Lib.Pipeline.ReadBack
public import Idealize.ShloMosaic.Lib.Pipeline.ValueKit
public import Idealize.ShloMosaic.Lib.Exec

@[expose] public section

set_option maxRecDepth 16384

noncomputable section

namespace Cert.LoadsW

open Cert.KernelXIdeal Cert.KernelXIdeal.Gen Idealize.ShloMosaic Idealize.ShloMosaic.TcCoe Idealize.SL.Sem

variable {Val : EltTy → Type} [∀ e, Nonempty (Val e)]

theorem inbS {u : ℕ} (hu : u < 4) : ∀ a, (![u, 0, 0] : Fin 3 → ℕ) a + S1x136x128.size a ≤ S4x136x128.size a := by
  intro a; fin_cases a <;> simp <;> omega

theorem inbG {g : ℕ} (hg : g < 16) : ∀ a, S8x128.size a = 0 ∨
    (![g, 0] : Fin 2 → ℕ) a + (![17, 1] : Fin 2 → ℕ) a * (S8x128.size a - 1) < S136x128.size a := by
  intro a; fin_cases a <;> simp <;> omega

theorem inbT {j : ℕ} (hj : j < 8) : ∀ a, (![17 * j, 0] : Fin 2 → ℕ) a + S16x128.size a ≤ S136x128.size a := by
  intro a; fin_cases a <;> simp <;> omega

theorem sz2 {a b : ℕ} (i : Fin 2) : (![1, a, b] : Fin 3 → ℕ) i.succ = (![a, b] : Fin 2 → ℕ) i := by
  fin_cases i <;> rfl

/-- Rows `g, g + 17, …` of one slot. -/
abbrev strip (g : ℕ) (hg : g < 16) : Rect S136x128 := ⟨⟨![g, 0], S8x128.size, ![17, 1], inbG hg⟩, spos_17_1⟩

abbrev strip' (g : ℕ) (hg : g < 16) : Rect S1x136x128 := (strip g hg).consLift ![1, 136, 128] rfl sz2

abbrev slot (u : ℕ) (hu : u < 4) : Rect S4x136x128 := Rect.unit (s := S4x136x128) ![u, 0, 0] S1x136x128.size (inbS hu)

/-- Rows `g, g + 17, …` of slot `u`, holding the eight rows `p`. -/
abbrev spread (u g : ℕ) (hu : u < 4) (hg : g < 16) (p : S8x128.Idx → Val .f32) : View.Piece Val S4x136x128 .f32 :=
  ⟨(slot u hu).within (strip' g hg) (fun _ => rfl),
    Rect.payAlong (R := strip' g hg) (r := strip g hg) (Rect.numel_consLift _ _ _ _) p⟩

/-- Rows `9 j … 9 j + 7` of slot `u`. -/
abbrev tile2 (j : ℕ) (hj : j < 8) : LoadRect S136x128 := (Rect.unit (s := S136x128) ![17 * j, 0] S16x128.size (inbT hj)).toLoadRect

abbrev tile' (j : ℕ) (hj : j < 8) : LoadRect S1x136x128 := (tile2 j hj).consLift ![1, 136, 128] rfl sz2

abbrev tile (u j : ℕ) (hu : u < 4) (hj : j < 8) : LoadRect S4x136x128 := (slot u hu).withinL (tile' j hj) (fun _ => rfl)

/-- What the scratch holds in a slot sixteen rows of groups were scattered into. -/
def held (P : Fin 16 → S8x128.Idx → Val .f32) (y : S4x136x128.Idx) : Val .f32 :=
  if h : (y 1).val % 17 < 16 ∧ (y 1).val / 17 < 8 then P ⟨(y 1).val % 17, h.1⟩ (ix2 ⟨(y 1).val / 17, h.2⟩ (y 2))
  else Classical.ofNonempty

theorem held_apply (P : Fin 16 → S8x128.Idx → Val .f32) (y : S4x136x128.Idx) (g r : ℕ) (hg : g < 16) (hr : r < 8)
    (h : (y 1).val = 17 * r + g) : held P y = P ⟨g, hg⟩ (ix2 ⟨r, hr⟩ (y 2)) := by
  have a : (y 1).val % 17 = g := by omega
  have b : (y 1).val / 17 = r := by omega
  unfold held
  rw [dif_pos ⟨by omega, by omega⟩]
  subst a b
  rfl

theorem spread_held (P : Fin 16 → S8x128.Idx → Val .f32) (u g : ℕ) (hu : u < 4) (hg : g < 16)
    (x : (spread (Val := Val) u g hu hg (P ⟨g, hg⟩)).1.shape.Idx) :
    (spread u g hu hg (P ⟨g, hg⟩)).2 x = held P ((spread (Val := Val) u g hu hg (P ⟨g, hg⟩)).1.emb x) := by
  have hx0 : (x 0).val < 1 := (x 0).isLt
  have hx : (x 1).val < 8 := (x 1).isLt
  have h1 : (((spread (Val := Val) u g hu hg (P ⟨g, hg⟩)).1.emb x) 1).val = g + 17 * (x 1).val := by
    rw [Rect.emb_apply]; show 0 + g + 17 * (x 1).val = _; omega
  have h2 : (((spread (Val := Val) u g hu hg (P ⟨g, hg⟩)).1.emb x) 2).val = (x 2).val := by
    rw [Rect.emb_apply]; show 0 + 0 + 1 * (x 2).val = _; omega
  rw [held_apply P _ g (x 1).val hg hx (h1.trans (by omega))]
  refine Rect.payAlong_consLift (strip g hg) _ rfl sz2 (P ⟨g, hg⟩) _ x _ fun i => ?_
  fin_cases i
  · rfl
  · exact h2

theorem tile_mem (u j : ℕ) (hu : u < 4) (hj : j < 8) (x : (tile u j hu hj).shape.Idx) (p : S8x128.Idx → Val .f32)
    (g : ℕ) (hg : g < 16) (h : (x 1).val = g) :
    (tile u j hu hj).idx x ∈ (spread (Val := Val) u g hu hg p).1.set := by
  have hx0 : (x 0).val < 1 := (x 0).isLt
  have hx2 : (x 2).val < 128 := (x 2).isLt
  refine (LoadRect.mem_set _).mpr fun a => ?_
  fin_cases a
  · refine ⟨0, Nat.one_pos, ?_⟩
    show u + 0 + 1 * (x 0).val = u + 0 + 1 * 0; omega
  · refine ⟨j, hj, ?_⟩
    show 0 + 17 * j + 1 * (x 1).val = 0 + g + 17 * j; omega
  · refine ⟨(x 2).val, hx2, ?_⟩
    show 0 + 0 + 1 * (x 2).val = 0 + 0 + 1 * (x 2).val; rfl

/-- Sixteen rotated rows scattered into a slot, read back a group at a time: row `j` of each. -/
theorem tile_load {sig : RefSig} {κ : Kind} {sp : Space} (v : View sig κ sp S4x136x128 .f32) (u j : ℕ) (hu : u < 4) (hj : j < 8)
    (P : Fin 16 → S8x128.Idx → Val .f32) (L : List (View.Piece Val S4x136x128 .f32))
    (hR : S16x128.numel = (tile u j hu hj).shape.numel) :
    (fun x : S16x128.Idx => v.readCov (spread u 15 hu (by decide) (P 15) :: spread u 14 hu (by decide) (P 14) :: spread u 13 hu (by decide) (P 13) :: spread u 12 hu (by decide) (P 12)
      :: spread u 11 hu (by decide) (P 11) :: spread u 10 hu (by decide) (P 10) :: spread u 9 hu (by decide) (P 9) :: spread u 8 hu (by decide) (P 8)
      :: spread u 7 hu (by decide) (P 7) :: spread u 6 hu (by decide) (P 6) :: spread u 5 hu (by decide) (P 5) :: spread u 4 hu (by decide) (P 4)
      :: spread u 3 hu (by decide) (P 3) :: spread u 2 hu (by decide) (P 2) :: spread u 1 hu (by decide) (P 1) :: spread u 0 hu (by decide) (P 0) :: L) (tile u j hu hj) (Shape.reshapeEquiv hR x))
      = fun x => P (x 0) (ix2 ⟨j, hj⟩ (x 1)) := by
  funext x
  rw [View.readCov_eq_canon']
  have e : Shape.reshapeEquiv hR x = (Fin.cons ⟨0, Nat.one_pos⟩ x : (tile u j hu hj).shape.Idx) := Shape.reshapeEquiv_cons_one _ x
  have key := View.canon_append_of_pieces (held P) L
    [spread u 15 hu (by decide) (P 15), spread u 14 hu (by decide) (P 14), spread u 13 hu (by decide) (P 13), spread u 12 hu (by decide) (P 12), spread u 11 hu (by decide) (P 11), spread u 10 hu (by decide) (P 10), spread u 9 hu (by decide) (P 9), spread u 8 hu (by decide) (P 8), spread u 7 hu (by decide) (P 7), spread u 6 hu (by decide) (P 6), spread u 5 hu (by decide) (P 5), spread u 4 hu (by decide) (P 4), spread u 3 hu (by decide) (P 3), spread u 2 hu (by decide) (P 2), spread u 1 hu (by decide) (P 1), spread u 0 hu (by decide) (P 0)]
    (by
      intro p hp
      simp only [List.mem_cons, List.not_mem_nil, or_false] at hp
      rcases hp with rfl | rfl | rfl | rfl | rfl | rfl | rfl | rfl | rfl | rfl | rfl | rfl | rfl | rfl | rfl | rfl
      · exact spread_held P u 15 hu (by decide)
      · exact spread_held P u 14 hu (by decide)
      · exact spread_held P u 13 hu (by decide)
      · exact spread_held P u 12 hu (by decide)
      · exact spread_held P u 11 hu (by decide)
      · exact spread_held P u 10 hu (by decide)
      · exact spread_held P u 9 hu (by decide)
      · exact spread_held P u 8 hu (by decide)
      · exact spread_held P u 7 hu (by decide)
      · exact spread_held P u 6 hu (by decide)
      · exact spread_held P u 5 hu (by decide)
      · exact spread_held P u 4 hu (by decide)
      · exact spread_held P u 3 hu (by decide)
      · exact spread_held P u 2 hu (by decide)
      · exact spread_held P u 1 hu (by decide)
      · exact spread_held P u 0 hu (by decide))
    ((tile u j hu hj).idx (Shape.reshapeEquiv hR x))
    (by
      have hm := fun (p : S8x128.Idx → Val .f32) (g : ℕ) (hg : g < 16) => tile_mem (Val := Val) u j hu hj (Shape.reshapeEquiv hR x) p g hg
      have h1 : ((Shape.reshapeEquiv hR x : (tile u j hu hj).shape.Idx) 1).val = (x 0).val := by rw [e]; rfl
      have h0 : (x 0).val < 16 := (x 0).isLt
      simp only [List.exists_mem_cons_iff]
      generalize hq : (x 0).val = q at *
      interval_cases q
      · exact .inr (.inr (.inr (.inr (.inr (.inr (.inr (.inr (.inr (.inr (.inr (.inr (.inr (.inr (.inr (.inl (hm (P 0) _ (by decide) h1))))))))))))))))
      · exact .inr (.inr (.inr (.inr (.inr (.inr (.inr (.inr (.inr (.inr (.inr (.inr (.inr (.inr (.inl (hm (P 1) _ (by decide) h1)))))))))))))))
      · exact .inr (.inr (.inr (.inr (.inr (.inr (.inr (.inr (.inr (.inr (.inr (.inr (.inr (.inl (hm (P 2) _ (by decide) h1))))))))))))))
      · exact .inr (.inr (.inr (.inr (.inr (.inr (.inr (.inr (.inr (.inr (.inr (.inr (.inl (hm (P 3) _ (by decide) h1)))))))))))))
      · exact .inr (.inr (.inr (.inr (.inr (.inr (.inr (.inr (.inr (.inr (.inr (.inl (hm (P 4) _ (by decide) h1))))))))))))
      · exact .inr (.inr (.inr (.inr (.inr (.inr (.inr (.inr (.inr (.inr (.inl (hm (P 5) _ (by decide) h1)))))))))))
      · exact .inr (.inr (.inr (.inr (.inr (.inr (.inr (.inr (.inr (.inl (hm (P 6) _ (by decide) h1))))))))))
      · exact .inr (.inr (.inr (.inr (.inr (.inr (.inr (.inr (.inl (hm (P 7) _ (by decide) h1)))))))))
      · exact .inr (.inr (.inr (.inr (.inr (.inr (.inr (.inl (hm (P 8) _ (by decide) h1))))))))
      · exact .inr (.inr (.inr (.inr (.inr (.inr (.inl (hm (P 9) _ (by decide) h1)))))))
      · exact .inr (.inr (.inr (.inr (.inr (.inl (hm (P 10) _ (by decide) h1))))))
      · exact .inr (.inr (.inr (.inr (.inl (hm (P 11) _ (by decide) h1)))))
      · exact .inr (.inr (.inr (.inl (hm (P 12) _ (by decide) h1))))
      · exact .inr (.inr (.inl (hm (P 13) _ (by decide) h1)))
      · exact .inr (.inl (hm (P 14) _ (by decide) h1))
      · exact .inl (hm (P 15) _ (by decide) h1))
  refine Eq.trans key ?_
  have h0 : (x 0).val < 16 := (x 0).isLt
  have i1 : ((tile u j hu hj).idx (Shape.reshapeEquiv hR x) 1).val = 17 * j + (x 0).val := by
    rw [LoadRect.idx_apply, e]; show 0 + 17 * j + 1 * (x 0).val = _; omega
  have i2 : ((tile u j hu hj).idx (Shape.reshapeEquiv hR x) 2).val = (x 1).val := by
    rw [LoadRect.idx_apply, e]; show 0 + 0 + 1 * (x 1).val = _; omega
  rw [held_apply P _ (x 0).val j h0 hj i1]
  have e3 : ((tile u j hu hj).idx (Shape.reshapeEquiv hR x) 2) = x 1 := Fin.ext i2
  rw [e3]
  rfl

end Cert.LoadsW

end
-- ==== Proof.Had.lean ====
/- The sixteen-point rotation: adding and subtracting in pairs, four times over, is the product with the sign matrix. -/
module

public import Idealize.ShloMosaic.PureOps.Ideal
public import Idealize.ShloMosaic.Lib.Pointwise

@[expose] public section

noncomputable section

namespace Cert.Had

open Idealize.ShloMosaic

/-- The sixteen values after the four rounds of sums and differences at distances 1, 2, 4 and 8. -/
def round1 {α : Type} (add sub : α → α → α) (v : Fin 16 → α) : Fin 16 → α :=
  ![add (v 0) (v 1), sub (v 0) (v 1), add (v 2) (v 3), sub (v 2) (v 3), add (v 4) (v 5), sub (v 4) (v 5),
    add (v 6) (v 7), sub (v 6) (v 7), add (v 8) (v 9), sub (v 8) (v 9), add (v 10) (v 11), sub (v 10) (v 11),
    add (v 12) (v 13), sub (v 12) (v 13), add (v 14) (v 15), sub (v 14) (v 15)]

def round2 {α : Type} (add sub : α → α → α) (v : Fin 16 → α) : Fin 16 → α :=
  ![add (v 0) (v 2), add (v 1) (v 3), sub (v 0) (v 2), sub (v 1) (v 3), add (v 4) (v 6), add (v 5) (v 7),
    sub (v 4) (v 6), sub (v 5) (v 7), add (v 8) (v 10), add (v 9) (v 11), sub (v 8) (v 10), sub (v 9) (v 11),
    add (v 12) (v 14), add (v 13) (v 15), sub (v 12) (v 14), sub (v 13) (v 15)]

def round4 {α : Type} (add sub : α → α → α) (v : Fin 16 → α) : Fin 16 → α :=
  ![add (v 0) (v 4), add (v 1) (v 5), add (v 2) (v 6), add (v 3) (v 7), sub (v 0) (v 4), sub (v 1) (v 5),
    sub (v 2) (v 6), sub (v 3) (v 7), add (v 8) (v 12), add (v 9) (v 13), add (v 10) (v 14), add (v 11) (v 15),
    sub (v 8) (v 12), sub (v 9) (v 13), sub (v 10) (v 14), sub (v 11) (v 15)]

def round8 {α : Type} (add sub : α → α → α) (v : Fin 16 → α) : Fin 16 → α :=
  ![add (v 0) (v 8), add (v 1) (v 9), add (v 2) (v 10), add (v 3) (v 11), add (v 4) (v 12), add (v 5) (v 13),
    add (v 6) (v 14), add (v 7) (v 15), sub (v 0) (v 8), sub (v 1) (v 9), sub (v 2) (v 10), sub (v 3) (v 11),
    sub (v 4) (v 12), sub (v 5) (v 13), sub (v 6) (v 14), sub (v 7) (v 15)]

def rot {α : Type} (add sub : α → α → α) (v : Fin 16 → α) : Fin 16 → α :=
  round8 add sub (round4 add sub (round2 add sub (round1 add sub v)))

/-- The sign at (i, j): minus where the bitwise conjunction of the indices has odd parity. -/
def odd (i j : Fin 16) : Bool :=
  ((i.val.testBit 0 && j.val.testBit 0) ^^ (i.val.testBit 1 && j.val.testBit 1) ^^
    (i.val.testBit 2 && j.val.testBit 2) ^^ (i.val.testBit 3 && j.val.testBit 3))

def sgn (i j : Fin 16) : ℝ := if odd i j then -1 else 1

/-- Over the reals the four rounds are the sum over the sign matrix. -/
theorem rot_sum (y : Fin 16 → ℝ) (i : Fin 16) :
    rot (fun a b : ℝ => a + b) (fun a b => a - b) y i = ∑ j, sgn i j * y j := by
  have h : ∀ f : Fin 16 → ℝ, ∑ j, f j = f 0 + f 1 + f 2 + f 3 + f 4 + f 5 + f 6 + f 7 + f 8 + f 9 + f 10 + f 11 + f 12
      + f 13 + f 14 + f 15 := fun f => by
    simp only [Fin.sum_univ_succ, Fin.sum_univ_zero, Fin.isValue]
    simp only [add_zero, ← add_assoc]
    rfl
  rw [h]
  have e : ∀ i j : Fin 16, sgn i j = if odd i j then -1 else 1 := fun _ _ => rfl
  simp only [e]
  fin_cases i <;>
    simp (decide := true) only [odd, if_true, if_false, Bool.false_eq_true] <;>
    (simp only [rot, round1, round2, round4, round8, Fin.isValue, Fin.zero_eta, Fin.mk_one, Fin.reduceFinMk, Matrix.cons_val]; ring)

/-- The rounds over finite extended reals are the rounds over their real values. -/
theorem rot_coe (y : Fin 16 → ℝ) (i : Fin 16) :
    rot (fun a b : EReal => a + b) (fun a b => a - b) (fun j => (y j : EReal)) i
      = ((rot (fun a b : ℝ => a + b) (fun a b => a - b) y i : ℝ) : EReal) := by
  fin_cases i <;> rfl

end Cert.Had
-- ==== Proof.Unit.lean ====
/- One unit of the quantiser (128 rows by 128 columns) over the extended reals: the sixteen rotated rows of each group and
   their largest magnitude, as functions of the block of the operand. -/
module

public import proofs.«01_k».proof.Proof.Loads
public import proofs.«01_k».proof.Proof.LoadsW
public import proofs.«01_k».proof.Proof.Had
public import Idealize.ShloMosaic.Lib.WholeRead

@[expose] public section

set_option maxRecDepth 16384

noncomputable section

namespace Cert.Unit

open Cert.KernelXIdeal Cert.KernelXIdeal.Gen Idealize.ShloMosaic Idealize.ShloMosaic.TcCoe Idealize.SL.Sem

/-- The largest of sixteen magnitudes, in pairs. -/
def top {α : Type} (ab : α → α) (mx : α → α → α) (v : Fin 16 → α) : α :=
  mx (mx (mx (mx (ab (v 0)) (ab (v 1))) (mx (ab (v 2)) (ab (v 3)))) (mx (mx (ab (v 4)) (ab (v 5))) (mx (ab (v 6)) (ab (v 7)))))
    (mx (mx (mx (ab (v 8)) (ab (v 9))) (mx (ab (v 10)) (ab (v 11)))) (mx (mx (ab (v 12)) (ab (v 13))) (mx (ab (v 14)) (ab (v 15)))))

/-- The rotated sixteen values of group `r` at column `c` of a block. -/
def vv (x0 : Vec Ideal S16 .f32) (x1 : Vec Ideal S512x512 .bf16) (r : Fin 32) (c : Fin 512) : Fin 16 → EReal :=
  Had.rot (fun a b => a + b) (fun a b => a - b) fun j =>
    (x1 (ix2 ⟨16 * r.val + j.val, by omega⟩ c) : EReal) * (x0 (ix1 j) : EReal)

/-- Their largest magnitude. -/
def aa (x0 : Vec Ideal S16 .f32) (x1 : Vec Ideal S512x512 .bf16) (r : Fin 32) (c : Fin 512) : EReal :=
  top (fun a : EReal => max a (-a)) max (vv x0 x1 r c)

theorem rot_at (V : Fin 16 → FVec Ideal S8x128 .f32) (i : Fin 16) (y : S8x128.Idx) :
    Had.rot addf subf V i y = Had.rot (fun a b : EReal => a + b) (fun a b => a - b) (fun j => V j y) i := by
  fin_cases i <;> rfl

theorem top_at (V : Fin 16 → FVec Ideal S8x128 .f32) (y : S8x128.Idx) :
    top absf maximumf V y = top (fun a : EReal => max a (-a)) max (fun j => V j y) := rfl

/-- A group's sixteen rows, as loaded and widened. -/
abbrev grp (x : Vec Ideal S16x128 .bf16) : FVec Ideal S16x128 .f32 :=
  shapeCast S16x128 (extf .f32 x bitsLt_bf16_f32) shapeCasts_S16x128_S16x128

theorem inbX {t l g : ℕ} (ht : t < 4) (hl : l < 4) (hg : g < 8) :
    ∀ a, (![128 * t + 16 * g, 128 * l] : Fin 2 → ℕ) a + S16x128.size a ≤ S512x512.size a := by
  intro a; fin_cases a <;> simp <;> omega

theorem inb1 {j : ℕ} (hj : j < 16) : ∀ a, (![j] : Fin 1 → ℕ) a + S1.size a ≤ S16.size a := by
  intro a; fin_cases a; simp; omega

theorem one_pos : 0 < S1.numel := by decide

variable {arg2 : Memref sig .tc .smem S16 .f32} {arg3 : Memref sig .tc .vmem S512x512 .bf16}

theorem lt0 (y : S8x128.Idx) {t : ℕ} (ht : t < 4) : 8 * t + (y 0).val < 32 := by
  have : (y 0).val < 8 := (y 0).isLt
  omega

theorem lt16 (y : S8x128.Idx) {t : ℕ} (ht : t < 4) (j : Fin 16) : 16 * (8 * t + (y 0).val) + j.val < 512 := by
  have : (y 0).val < 8 := (y 0).isLt
  omega

theorem lt1 (y : S8x128.Idx) {l : ℕ} (hl : l < 4) : 128 * l + (y 1).val < 512 := by
  have : (y 1).val < 128 := (y 1).isLt
  omega

/-- Group `g` of the unit at rows `128 t`, columns `128 l`. -/
abbrev gl (harg3 : arg3.IsWhole) (x1 : Vec Ideal S512x512 .bf16) (t l g : ℕ) (ht : t < 4) (hl : l < 4) (hg : g < 8) :
    FVec Ideal S16x128 .f32 :=
  grp (View.readAt (Elt Ideal) arg3.view (Rect.unit (s := S512x512) ![128 * t + 16 * g, 128 * l] S16x128.size (inbX ht hl hg)).toLoadRect
    (harg3.unread x1))

/-- Sign `j`. -/
abbrev sl (harg2 : arg2.IsWhole) (x0 : Vec Ideal S16 .f32) (j : ℕ) (hj : j < 16) : EReal :=
  View.readAt (Elt Ideal) arg2.view (Rect.unit (s := S16) ![j] S1.size (inb1 hj)).toLoadRect (harg2.unread x0) (Shape.Idx.first one_pos)

/-- Row `j` of the unit's groups as read back from the scratch, times its sign. -/
abbrev ld {sp : Space} (v : View sig .tc sp S4x144x128 .f32) (harg2 : arg2.IsWhole) (harg3 : arg3.IsWhole) (x0 : Vec Ideal S16 .f32)
    (x1 : Vec Ideal S512x512 .bf16) (L : List (View.Piece (Elt Ideal) S4x144x128 .f32))
    (u t l : ℕ) (hu : u < 4) (ht : t < 4) (hl : l < 4) (hR : ∀ j, (hj : j < 16) → S8x128.numel = (Loads.tile u j hu hj).shape.numel)
    (j : Fin 16) : FVec Ideal S8x128 .f32 :=
  mulf (fun x : S8x128.Idx => v.readCov (Loads.spread u 7 hu (by decide) (gl harg3 x1 t l 7 ht hl (by decide))
      :: Loads.spread u 6 hu (by decide) (gl harg3 x1 t l 6 ht hl (by decide))
      :: Loads.spread u 5 hu (by decide) (gl harg3 x1 t l 5 ht hl (by decide))
      :: Loads.spread u 4 hu (by decide) (gl harg3 x1 t l 4 ht hl (by decide))
      :: Loads.spread u 3 hu (by decide) (gl harg3 x1 t l 3 ht hl (by decide))
      :: Loads.spread u 2 hu (by decide) (gl harg3 x1 t l 2 ht hl (by decide))
      :: Loads.spread u 1 hu (by decide) (gl harg3 x1 t l 1 ht hl (by decide))
      :: Loads.spread u 0 hu (by decide) (gl harg3 x1 t l 0 ht hl (by decide)) :: L)
      (Loads.tile u j.val hu j.isLt) (Shape.reshapeEquiv (hR j.val j.isLt) x))
    (broadcast S8x128 (sl harg2 x0 j.val j.isLt))

theorem gl_apply (harg3 : arg3.IsWhole) (x1 : Vec Ideal S512x512 .bf16) (t l : ℕ) (ht : t < 4) (hl : l < 4) (g : Fin 8)
    (j : Fin 16) (c : Fin 128) : gl harg3 x1 t l g.val ht hl g.isLt (ix2 j c)
      = x1 (ix2 ⟨128 * t + 16 * g.val + j.val, by omega⟩ ⟨128 * l + c.val, by omega⟩) := by
  show shapeCast S16x128 _ _ _ = _
  rw [shapeCast_self]
  show View.readAt (Elt Ideal) arg3.view _ _ _ = _
  rw [harg3.readAt_unread]
  refine congrArg x1 (funext fun a => Fin.ext ?_)
  fin_cases a
  · show 128 * t + 16 * g.val + 1 * j.val = 128 * t + 16 * g.val + j.val; omega
  · show 128 * l + 1 * c.val = 128 * l + c.val; omega

theorem sl_apply (harg2 : arg2.IsWhole) (x0 : Vec Ideal S16 .f32) (j : Fin 16) : sl harg2 x0 j.val j.isLt = x0 (ix1 j) := by
  show View.readAt (Elt Ideal) arg2.view _ _ _ = _
  rw [harg2.readAt_unread]
  refine congrArg x0 (funext fun a => Fin.ext ?_)
  fin_cases a
  show j.val + 1 * 0 = j.val; omega

theorem ld_apply {sp : Space} (v : View sig .tc sp S4x144x128 .f32) (harg2 : arg2.IsWhole) (harg3 : arg3.IsWhole) (x0 : Vec Ideal S16 .f32)
    (x1 : Vec Ideal S512x512 .bf16) (L : List (View.Piece (Elt Ideal) S4x144x128 .f32))
    (u t l : ℕ) (hu : u < 4) (ht : t < 4) (hl : l < 4) (hR : ∀ j, (hj : j < 16) → S8x128.numel = (Loads.tile u j hu hj).shape.numel)
    (j : Fin 16) (y : S8x128.Idx) : ld v harg2 harg3 x0 x1 L u t l hu ht hl hR j y
      = (x1 (ix2 ⟨16 * (8 * t + (y 0).val) + j.val, lt16 y ht j⟩ ⟨128 * l + (y 1).val, lt1 y hl⟩) : EReal)
        * (x0 (ix1 j) : EReal) := by
  have h := congrFun (Loads.tile_load (Val := Elt Ideal) v u j.val hu j.isLt (fun g => gl harg3 x1 t l g.val ht hl g.isLt) L (hR j.val j.isLt)) y
  show (_ : EReal) * _ = _
  refine congr (congrArg _ (h.trans ((gl_apply harg3 x1 t l ht hl (y 0) j (y 1)).trans ?_))) (sl_apply harg2 x0 j)
  refine congrArg x1 (congrArg (fun q => ix2 q _) (Fin.ext ?_))
  show 128 * t + 16 * (y 0).val + j.val = 16 * (8 * t + (y 0).val) + j.val
  omega

/-- The unit's rotated rows. -/
theorem rot_apply {sp : Space} (v : View sig .tc sp S4x144x128 .f32) (harg2 : arg2.IsWhole) (harg3 : arg3.IsWhole) (x0 : Vec Ideal S16 .f32)
    (x1 : Vec Ideal S512x512 .bf16) (L : List (View.Piece (Elt Ideal) S4x144x128 .f32))
    (u t l : ℕ) (hu : u < 4) (ht : t < 4) (hl : l < 4) (hR : ∀ j, (hj : j < 16) → S8x128.numel = (Loads.tile u j hu hj).shape.numel)
    (i : Fin 16) (y : S8x128.Idx) : Had.rot addf subf (ld v harg2 harg3 x0 x1 L u t l hu ht hl hR) i y
      = vv x0 x1 ⟨8 * t + (y 0).val, lt0 y ht⟩ ⟨128 * l + (y 1).val, lt1 y hl⟩ i := by
  rw [rot_at]
  exact congrArg (fun f => Had.rot _ _ f i) (funext fun j => ld_apply v harg2 harg3 x0 x1 L u t l hu ht hl hR j y)

/-- The unit's largest magnitudes. -/
theorem top_apply {sp : Space} (v : View sig .tc sp S4x144x128 .f32) (harg2 : arg2.IsWhole) (harg3 : arg3.IsWhole) (x0 : Vec Ideal S16 .f32)
    (x1 : Vec Ideal S512x512 .bf16) (L : List (View.Piece (Elt Ideal) S4x144x128 .f32))
    (u t l : ℕ) (hu : u < 4) (ht : t < 4) (hl : l < 4) (hR : ∀ j, (hj : j < 16) → S8x128.numel = (Loads.tile u j hu hj).shape.numel)
    (y : S8x128.Idx) : top absf maximumf (Had.rot addf subf (ld v harg2 harg3 x0 x1 L u t l hu ht hl hR)) y
      = aa x0 x1 ⟨8 * t + (y 0).val, lt0 y ht⟩ ⟨128 * l + (y 1).val, lt1 y hl⟩ := by
  rw [top_at]
  exact congrArg (top _ _) (funext fun i => rot_apply v harg2 harg3 x0 x1 L u t l hu ht hl hR i y)

end Cert.Unit

end
-- ==== Proof.Quant.lean ====
/- The quantiser's element-by-element steps, on arrays of any shape over the extended reals: the block scale, its
   reciprocal and the scaled and clipped value. -/
module

public import proofs.«01_k».proof.Proof.Gen.KernelXIdeal.Skeleton
public import Idealize.ShloMosaic.Lib.Pointwise

@[expose] public section

noncomputable section

namespace Cert.Quant

open Cert.KernelXIdeal Cert.KernelXIdeal.Gen Idealize.ShloMosaic

/-- The block scale of largest magnitude `a` under the global scale `g`. -/
def sbV (s : Shape) (a g : FVec Ideal s .f32) : FVec Ideal s .f32 :=
  extf .f32 (truncf .fp8e4m3 (minimumf (broadcast s (FloatOps.ofBits (F := Ideal) .f32 1138753536#32))
    (maximumf (broadcast s (FloatOps.ofBits (F := Ideal) .f32 0#32))
      (divf (divf a (broadcast s (FloatOps.ofBits (F := Ideal) .f32 1086324736#32))) g))) bitsLt_fp8e4m3_f32) bitsLt_fp8e4m3_f32

/-- The factor a block is multiplied by: the reciprocal of block scale times global scale, or zero. -/
def rV (s : Shape) (b g : FVec Ideal s .f32) : FVec Ideal s .f32 :=
  select (cmpf .ogt (mulf b g) (broadcast s (FloatOps.ofBits (F := Ideal) .f32 0#32)))
    (divf (broadcast s (FloatOps.ofBits (F := Ideal) .f32 1065353216#32))
      (select (cmpf .ogt (mulf b g) (broadcast s (FloatOps.ofBits (F := Ideal) .f32 0#32))) (mulf b g)
        (broadcast s (FloatOps.ofBits (F := Ideal) .f32 1065353216#32))))
    (broadcast s (FloatOps.ofBits (F := Ideal) .f32 0#32))

/-- The scaled value, clipped to the range of the four-bit format. -/
def wV (s : Shape) (v r : FVec Ideal s .f32) : FVec Ideal s .f32 :=
  minimumf (broadcast s (FloatOps.ofBits (F := Ideal) .f32 1086324736#32))
    (maximumf (broadcast s (FloatOps.ofBits (F := Ideal) .f32 3233808384#32)) (mulf v r))

/-- The same three for one element. -/
def sb1 (a g : EReal) : EReal := sbV S1x1 (fun _ => a) (fun _ => g) (ix2 0 0)
def r1 (b g : EReal) : EReal := rV S1x1 (fun _ => b) (fun _ => g) (ix2 0 0)
def w1 (v r : EReal) : EReal := wV S1x1 (fun _ => v) (fun _ => r) (ix2 0 0)

theorem sbV_at (s : Shape) (a g : FVec Ideal s .f32) (y : s.Idx) : sbV s a g y = sb1 (a y) (g y) := rfl
theorem rV_at (s : Shape) (b g : FVec Ideal s .f32) (y : s.Idx) : rV s b g y = r1 (b y) (g y) := rfl
theorem wV_at (s : Shape) (v r : FVec Ideal s .f32) (y : s.Idx) : wV s v r y = w1 (v y) (r y) := rfl

end Cert.Quant

end
-- ==== Proof.Unit2.lean ====
/- One unit of the quantiser, its vectors named: the largest magnitudes, the block scales and the scaled values it holds,
   as functions of the block of the operand. -/
module

public import proofs.«01_k».proof.Proof.Unit
public import proofs.«01_k».proof.Proof.Quant

@[expose] public section

set_option maxRecDepth 16384

noncomputable section

namespace Cert.Unit

open Cert.KernelXIdeal Cert.KernelXIdeal.Gen Idealize.ShloMosaic Idealize.ShloMosaic.TcCoe Idealize.SL.Sem

theorem hR {u : ℕ} {hu : u < 4} (j : ℕ) (hj : j < 16) : S8x128.numel = (Loads.tile u j hu hj).shape.numel := by
  show _ = S1x8x128.numel
  decide

/-- The global scale. -/
def gg (x2 : Vec Ideal S1x24 .f32) : EReal := k0_pay3 (F := Ideal) x2 (ix2 0 0)

/-- The block scale, the factor and the scaled value of the block's groups. -/
def bb (x0 : Vec Ideal S16 .f32) (x1 : Vec Ideal S512x512 .bf16) (x2 : Vec Ideal S1x24 .f32) (r : Fin 32) (c : Fin 512) : EReal :=
  Quant.sb1 (aa x0 x1 r c) (gg x2)
def ww (x0 : Vec Ideal S16 .f32) (x1 : Vec Ideal S512x512 .bf16) (x2 : Vec Ideal S1x24 .f32) (r : Fin 32) (c : Fin 512) (i : Fin 16) : EReal :=
  Quant.w1 (vv x0 x1 r c i) (Quant.r1 (bb x0 x1 x2 r c) (gg x2))

theorem load2 {arg4 : Memref sig .tc .vmem S1x24 .f32} (harg4 : arg4.IsWhole) (x2 : Vec Ideal S1x24 .f32)
    (h : ∀ a, (![0, 0] : Fin 2 → ℕ) a + S1x24.size a ≤ S1x24.size a) :
    View.readAt (Elt Ideal) arg4.view (Rect.unit (s := S1x24) ![0, 0] S1x24.size h).toLoadRect (harg4.unread x2) = x2 := by
  funext x
  rw [harg4.readAt_unread]
  refine congrArg x2 (funext fun a => Fin.ext ?_)
  fin_cases a
  · show 0 + 1 * (x 0).val = (x 0).val; omega
  · show 0 + 1 * (x 1).val = (x 1).val; omega

theorem pay5_at (x2 : Vec Ideal S1x24 .f32) (y : S8x128.Idx) : k0_pay5 (F := Ideal) x2 y = gg x2 := by
  unfold k0_pay5 gg
  show broadcastTo S8x128 (shapeCast S1x1 _ _) _ y = _
  rw [shapeCast_self, broadcastTo_apply _ _ y (ix2 0 0) (fun a => by fin_cases a <;> rfl)]

variable {arg2 : Memref sig .tc .smem S16 .f32} {arg3 : Memref sig .tc .vmem S512x512 .bf16} {arg4 : Memref sig .tc .vmem S1x24 .f32}
  {sp : Space} (v : View sig .tc sp S4x144x128 .f32) (harg2 : arg2.IsWhole) (harg3 : arg3.IsWhole) (harg4 : arg4.IsWhole)
  (x0 : Vec Ideal S16 .f32) (x1 : Vec Ideal S512x512 .bf16) (x2 : Vec Ideal S1x24 .f32)
  (u t l : ℕ) (hu : u < 4) (ht : t < 4) (hl : l < 4) (L : List (View.Piece (Elt Ideal) S4x144x128 .f32))

/-- The largest magnitudes. -/
theorem unit_a (a0 a1 a2 a3 a4 a5 a6 a7 a8 a9 a10 a11 a12 a13 a14 a15 : FVec Ideal S8x128 .f32) (y : S8x128.Idx)
    (h0 : a0 = ld v harg2 harg3 x0 x1 L u t l hu ht hl hR 0) (h1 : a1 = ld v harg2 harg3 x0 x1 L u t l hu ht hl hR 1) (h2 : a2 = ld v
      harg2 harg3 x0 x1 L u t l hu ht hl hR 2) (h3 : a3 = ld v harg2 harg3 x0 x1 L u t l hu ht hl hR 3) (h4 : a4 = ld v harg2 harg3 x0
      x1 L u t l hu ht hl hR 4) (h5 : a5 = ld v harg2 harg3 x0 x1 L u t l hu ht hl hR 5) (h6 : a6 = ld v harg2 harg3 x0 x1 L u t l hu ht
      hl hR 6) (h7 : a7 = ld v harg2 harg3 x0 x1 L u t l hu ht hl hR 7) (h8 : a8 = ld v harg2 harg3 x0 x1 L u t l hu ht hl hR 8) (h9 :
      a9 = ld v harg2 harg3 x0 x1 L u t l hu ht hl hR 9) (h10 : a10 = ld v harg2 harg3 x0 x1 L u t l hu ht hl hR 10) (h11 : a11 = ld v
      harg2 harg3 x0 x1 L u t l hu ht hl hR 11) (h12 : a12 = ld v harg2 harg3 x0 x1 L u t l hu ht hl hR 12) (h13 : a13 = ld v harg2
      harg3 x0 x1 L u t l hu ht hl hR 13) (h14 : a14 = ld v harg2 harg3 x0 x1 L u t l hu ht hl hR 14) (h15 : a15 = ld v harg2 harg3 x0
      x1 L u t l hu ht hl hR 15) :
    (maximumf (maximumf (maximumf (maximumf (absf (addf (addf (addf (addf a0 a1) (addf a2 a3)) (addf (addf a4 a5) (addf a6 a7))) (addf
      (addf (addf a8 a9) (addf a10 a11)) (addf (addf a12 a13) (addf a14 a15))))) (absf (addf (addf (addf (subf a0 a1) (subf a2 a3))
      (addf (subf a4 a5) (subf a6 a7))) (addf (addf (subf a8 a9) (subf a10 a11)) (addf (subf a12 a13) (subf a14 a15)))))) (maximumf
      (absf (addf (addf (subf (addf a0 a1) (addf a2 a3)) (subf (addf a4 a5) (addf a6 a7))) (addf (subf (addf a8 a9) (addf a10 a11))
      (subf (addf a12 a13) (addf a14 a15))))) (absf (addf (addf (subf (subf a0 a1) (subf a2 a3)) (subf (subf a4 a5) (subf a6 a7))) (addf
      (subf (subf a8 a9) (subf a10 a11)) (subf (subf a12 a13) (subf a14 a15))))))) (maximumf (maximumf (absf (addf (subf (addf (addf a0
      a1) (addf a2 a3)) (addf (addf a4 a5) (addf a6 a7))) (subf (addf (addf a8 a9) (addf a10 a11)) (addf (addf a12 a13) (addf a14
      a15))))) (absf (addf (subf (addf (subf a0 a1) (subf a2 a3)) (addf (subf a4 a5) (subf a6 a7))) (subf (addf (subf a8 a9) (subf a10
      a11)) (addf (subf a12 a13) (subf a14 a15)))))) (maximumf (absf (addf (subf (subf (addf a0 a1) (addf a2 a3)) (subf (addf a4 a5)
      (addf a6 a7))) (subf (subf (addf a8 a9) (addf a10 a11)) (subf (addf a12 a13) (addf a14 a15))))) (absf (addf (subf (subf (subf a0
      a1) (subf a2 a3)) (subf (subf a4 a5) (subf a6 a7))) (subf (subf (subf a8 a9) (subf a10 a11)) (subf (subf a12 a13) (subf a14
      a15)))))))) (maximumf (maximumf (maximumf (absf (subf (addf (addf (addf a0 a1) (addf a2 a3)) (addf (addf a4 a5) (addf a6 a7)))
      (addf (addf (addf a8 a9) (addf a10 a11)) (addf (addf a12 a13) (addf a14 a15))))) (absf (subf (addf (addf (subf a0 a1) (subf a2
      a3)) (addf (subf a4 a5) (subf a6 a7))) (addf (addf (subf a8 a9) (subf a10 a11)) (addf (subf a12 a13) (subf a14 a15)))))) (maximumf
      (absf (subf (addf (subf (addf a0 a1) (addf a2 a3)) (subf (addf a4 a5) (addf a6 a7))) (addf (subf (addf a8 a9) (addf a10 a11))
      (subf (addf a12 a13) (addf a14 a15))))) (absf (subf (addf (subf (subf a0 a1) (subf a2 a3)) (subf (subf a4 a5) (subf a6 a7))) (addf
      (subf (subf a8 a9) (subf a10 a11)) (subf (subf a12 a13) (subf a14 a15))))))) (maximumf (maximumf (absf (subf (subf (addf (addf a0
      a1) (addf a2 a3)) (addf (addf a4 a5) (addf a6 a7))) (subf (addf (addf a8 a9) (addf a10 a11)) (addf (addf a12 a13) (addf a14
      a15))))) (absf (subf (subf (addf (subf a0 a1) (subf a2 a3)) (addf (subf a4 a5) (subf a6 a7))) (subf (addf (subf a8 a9) (subf a10
      a11)) (addf (subf a12 a13) (subf a14 a15)))))) (maximumf (absf (subf (subf (subf (addf a0 a1) (addf a2 a3)) (subf (addf a4 a5)
      (addf a6 a7))) (subf (subf (addf a8 a9) (addf a10 a11)) (subf (addf a12 a13) (addf a14 a15))))) (absf (subf (subf (subf (subf a0
      a1) (subf a2 a3)) (subf (subf a4 a5) (subf a6 a7))) (subf (subf (subf a8 a9) (subf a10 a11)) (subf (subf a12 a13) (subf a14
      a15))))))))) y
      = aa x0 x1 ⟨8 * t + (y 0).val, lt0 y ht⟩ ⟨128 * l + (y 1).val, lt1 y hl⟩ := by
  subst h0 h1 h2 h3 h4 h5 h6 h7 h8 h9 h10 h11 h12 h13 h14 h15
  exact top_apply v harg2 harg3 x0 x1 L u t l hu ht hl hR y

theorem unit_a_emb (a0 a1 a2 a3 a4 a5 a6 a7 a8 a9 a10 a11 a12 a13 a14 a15 : FVec Ideal S8x128 .f32)
    (h : ∀ a, (![8 * t, 128 * l] : Fin 2 → ℕ) a + S8x128.size a ≤ S32x512.size a) (y : S8x128.Idx)
    (h0 : a0 = ld v harg2 harg3 x0 x1 L u t l hu ht hl hR 0) (h1 : a1 = ld v harg2 harg3 x0 x1 L u t l hu ht hl hR 1) (h2 : a2 = ld v
      harg2 harg3 x0 x1 L u t l hu ht hl hR 2) (h3 : a3 = ld v harg2 harg3 x0 x1 L u t l hu ht hl hR 3) (h4 : a4 = ld v harg2 harg3 x0
      x1 L u t l hu ht hl hR 4) (h5 : a5 = ld v harg2 harg3 x0 x1 L u t l hu ht hl hR 5) (h6 : a6 = ld v harg2 harg3 x0 x1 L u t l hu ht
      hl hR 6) (h7 : a7 = ld v harg2 harg3 x0 x1 L u t l hu ht hl hR 7) (h8 : a8 = ld v harg2 harg3 x0 x1 L u t l hu ht hl hR 8) (h9 :
      a9 = ld v harg2 harg3 x0 x1 L u t l hu ht hl hR 9) (h10 : a10 = ld v harg2 harg3 x0 x1 L u t l hu ht hl hR 10) (h11 : a11 = ld v
      harg2 harg3 x0 x1 L u t l hu ht hl hR 11) (h12 : a12 = ld v harg2 harg3 x0 x1 L u t l hu ht hl hR 12) (h13 : a13 = ld v harg2
      harg3 x0 x1 L u t l hu ht hl hR 13) (h14 : a14 = ld v harg2 harg3 x0 x1 L u t l hu ht hl hR 14) (h15 : a15 = ld v harg2 harg3 x0
      x1 L u t l hu ht hl hR 15) :
    (maximumf (maximumf (maximumf (maximumf (absf (addf (addf (addf (addf a0 a1) (addf a2 a3)) (addf (addf a4 a5) (addf a6 a7))) (addf
      (addf (addf a8 a9) (addf a10 a11)) (addf (addf a12 a13) (addf a14 a15))))) (absf (addf (addf (addf (subf a0 a1) (subf a2 a3))
      (addf (subf a4 a5) (subf a6 a7))) (addf (addf (subf a8 a9) (subf a10 a11)) (addf (subf a12 a13) (subf a14 a15)))))) (maximumf
      (absf (addf (addf (subf (addf a0 a1) (addf a2 a3)) (subf (addf a4 a5) (addf a6 a7))) (addf (subf (addf a8 a9) (addf a10 a11))
      (subf (addf a12 a13) (addf a14 a15))))) (absf (addf (addf (subf (subf a0 a1) (subf a2 a3)) (subf (subf a4 a5) (subf a6 a7))) (addf
      (subf (subf a8 a9) (subf a10 a11)) (subf (subf a12 a13) (subf a14 a15))))))) (maximumf (maximumf (absf (addf (subf (addf (addf a0
      a1) (addf a2 a3)) (addf (addf a4 a5) (addf a6 a7))) (subf (addf (addf a8 a9) (addf a10 a11)) (addf (addf a12 a13) (addf a14
      a15))))) (absf (addf (subf (addf (subf a0 a1) (subf a2 a3)) (addf (subf a4 a5) (subf a6 a7))) (subf (addf (subf a8 a9) (subf a10
      a11)) (addf (subf a12 a13) (subf a14 a15)))))) (maximumf (absf (addf (subf (subf (addf a0 a1) (addf a2 a3)) (subf (addf a4 a5)
      (addf a6 a7))) (subf (subf (addf a8 a9) (addf a10 a11)) (subf (addf a12 a13) (addf a14 a15))))) (absf (addf (subf (subf (subf a0
      a1) (subf a2 a3)) (subf (subf a4 a5) (subf a6 a7))) (subf (subf (subf a8 a9) (subf a10 a11)) (subf (subf a12 a13) (subf a14
      a15)))))))) (maximumf (maximumf (maximumf (absf (subf (addf (addf (addf a0 a1) (addf a2 a3)) (addf (addf a4 a5) (addf a6 a7)))
      (addf (addf (addf a8 a9) (addf a10 a11)) (addf (addf a12 a13) (addf a14 a15))))) (absf (subf (addf (addf (subf a0 a1) (subf a2
      a3)) (addf (subf a4 a5) (subf a6 a7))) (addf (addf (subf a8 a9) (subf a10 a11)) (addf (subf a12 a13) (subf a14 a15)))))) (maximumf
      (absf (subf (addf (subf (addf a0 a1) (addf a2 a3)) (subf (addf a4 a5) (addf a6 a7))) (addf (subf (addf a8 a9) (addf a10 a11))
      (subf (addf a12 a13) (addf a14 a15))))) (absf (subf (addf (subf (subf a0 a1) (subf a2 a3)) (subf (subf a4 a5) (subf a6 a7))) (addf
      (subf (subf a8 a9) (subf a10 a11)) (subf (subf a12 a13) (subf a14 a15))))))) (maximumf (maximumf (absf (subf (subf (addf (addf a0
      a1) (addf a2 a3)) (addf (addf a4 a5) (addf a6 a7))) (subf (addf (addf a8 a9) (addf a10 a11)) (addf (addf a12 a13) (addf a14
      a15))))) (absf (subf (subf (addf (subf a0 a1) (subf a2 a3)) (addf (subf a4 a5) (subf a6 a7))) (subf (addf (subf a8 a9) (subf a10
      a11)) (addf (subf a12 a13) (subf a14 a15)))))) (maximumf (absf (subf (subf (subf (addf a0 a1) (addf a2 a3)) (subf (addf a4 a5)
      (addf a6 a7))) (subf (subf (addf a8 a9) (addf a10 a11)) (subf (addf a12 a13) (addf a14 a15))))) (absf (subf (subf (subf (subf a0
      a1) (subf a2 a3)) (subf (subf a4 a5) (subf a6 a7))) (subf (subf (subf a8 a9) (subf a10 a11)) (subf (subf a12 a13) (subf a14
      a15))))))))) y
      = (fun y : S32x512.Idx => aa x0 x1 (y 0) (y 1)) ((Rect.unit (s := S32x512) ![8 * t, 128 * l] S8x128.size h).emb y) := by
  refine (unit_a v harg2 harg3 x0 x1 u t l hu ht hl L a0 a1 a2 a3 a4 a5 a6 a7 a8 a9 a10 a11 a12 a13 a14 a15 y h0 h1 h2 h3 h4 h5 h6 h7 h8 h9 h10 h11 h12 h13 h14 h15).trans ?_
  show aa x0 x1 _ _ = aa x0 x1 _ _
  congr 1 <;> refine Fin.ext ?_
  · show 8 * t + (y 0).val = 8 * t + 1 * (y 0).val; omega
  · show 128 * l + (y 1).val = 128 * l + 1 * (y 1).val; omega

/-- The block scales. -/
theorem unit_b (SB SG : FVec Ideal S8x128 .f32) (a0 a1 a2 a3 a4 a5 a6 a7 a8 a9 a10 a11 a12 a13 a14 a15 : FVec Ideal S8x128 .f32) (y : S8x128.Idx)
    (eb : SB = Quant.sbV S8x128
      (maximumf (maximumf (maximumf (maximumf (absf (addf (addf (addf (addf a0 a1) (addf a2 a3)) (addf (addf a4 a5) (addf a6 a7))) (addf
      (addf (addf a8 a9) (addf a10 a11)) (addf (addf a12 a13) (addf a14 a15))))) (absf (addf (addf (addf (subf a0 a1) (subf a2 a3))
      (addf (subf a4 a5) (subf a6 a7))) (addf (addf (subf a8 a9) (subf a10 a11)) (addf (subf a12 a13) (subf a14 a15)))))) (maximumf
      (absf (addf (addf (subf (addf a0 a1) (addf a2 a3)) (subf (addf a4 a5) (addf a6 a7))) (addf (subf (addf a8 a9) (addf a10 a11))
      (subf (addf a12 a13) (addf a14 a15))))) (absf (addf (addf (subf (subf a0 a1) (subf a2 a3)) (subf (subf a4 a5) (subf a6 a7))) (addf
      (subf (subf a8 a9) (subf a10 a11)) (subf (subf a12 a13) (subf a14 a15))))))) (maximumf (maximumf (absf (addf (subf (addf (addf a0
      a1) (addf a2 a3)) (addf (addf a4 a5) (addf a6 a7))) (subf (addf (addf a8 a9) (addf a10 a11)) (addf (addf a12 a13) (addf a14
      a15))))) (absf (addf (subf (addf (subf a0 a1) (subf a2 a3)) (addf (subf a4 a5) (subf a6 a7))) (subf (addf (subf a8 a9) (subf a10
      a11)) (addf (subf a12 a13) (subf a14 a15)))))) (maximumf (absf (addf (subf (subf (addf a0 a1) (addf a2 a3)) (subf (addf a4 a5)
      (addf a6 a7))) (subf (subf (addf a8 a9) (addf a10 a11)) (subf (addf a12 a13) (addf a14 a15))))) (absf (addf (subf (subf (subf a0
      a1) (subf a2 a3)) (subf (subf a4 a5) (subf a6 a7))) (subf (subf (subf a8 a9) (subf a10 a11)) (subf (subf a12 a13) (subf a14
      a15)))))))) (maximumf (maximumf (maximumf (absf (subf (addf (addf (addf a0 a1) (addf a2 a3)) (addf (addf a4 a5) (addf a6 a7)))
      (addf (addf (addf a8 a9) (addf a10 a11)) (addf (addf a12 a13) (addf a14 a15))))) (absf (subf (addf (addf (subf a0 a1) (subf a2
      a3)) (addf (subf a4 a5) (subf a6 a7))) (addf (addf (subf a8 a9) (subf a10 a11)) (addf (subf a12 a13) (subf a14 a15)))))) (maximumf
      (absf (subf (addf (subf (addf a0 a1) (addf a2 a3)) (subf (addf a4 a5) (addf a6 a7))) (addf (subf (addf a8 a9) (addf a10 a11))
      (subf (addf a12 a13) (addf a14 a15))))) (absf (subf (addf (subf (subf a0 a1) (subf a2 a3)) (subf (subf a4 a5) (subf a6 a7))) (addf
      (subf (subf a8 a9) (subf a10 a11)) (subf (subf a12 a13) (subf a14 a15))))))) (maximumf (maximumf (absf (subf (subf (addf (addf a0
      a1) (addf a2 a3)) (addf (addf a4 a5) (addf a6 a7))) (subf (addf (addf a8 a9) (addf a10 a11)) (addf (addf a12 a13) (addf a14
      a15))))) (absf (subf (subf (addf (subf a0 a1) (subf a2 a3)) (addf (subf a4 a5) (subf a6 a7))) (subf (addf (subf a8 a9) (subf a10
      a11)) (addf (subf a12 a13) (subf a14 a15)))))) (maximumf (absf (subf (subf (subf (addf a0 a1) (addf a2 a3)) (subf (addf a4 a5)
      (addf a6 a7))) (subf (subf (addf a8 a9) (addf a10 a11)) (subf (addf a12 a13) (addf a14 a15))))) (absf (subf (subf (subf (subf a0
      a1) (subf a2 a3)) (subf (subf a4 a5) (subf a6 a7))) (subf (subf (subf a8 a9) (subf a10 a11)) (subf (subf a12 a13) (subf a14
      a15))))))))) SG)
    (hg : SG = k0_pay5 (F := Ideal) (View.readAt (Elt Ideal) arg4.view (Rect.unit (s := S1x24) ![0, 0] S1x24.size inb_S1x24_S1x24_0_0).toLoadRect (harg4.unread x2)))
    (h0 : a0 = ld v harg2 harg3 x0 x1 L u t l hu ht hl hR 0) (h1 : a1 = ld v harg2 harg3 x0 x1 L u t l hu ht hl hR 1) (h2 : a2 = ld v
      harg2 harg3 x0 x1 L u t l hu ht hl hR 2) (h3 : a3 = ld v harg2 harg3 x0 x1 L u t l hu ht hl hR 3) (h4 : a4 = ld v harg2 harg3 x0
      x1 L u t l hu ht hl hR 4) (h5 : a5 = ld v harg2 harg3 x0 x1 L u t l hu ht hl hR 5) (h6 : a6 = ld v harg2 harg3 x0 x1 L u t l hu ht
      hl hR 6) (h7 : a7 = ld v harg2 harg3 x0 x1 L u t l hu ht hl hR 7) (h8 : a8 = ld v harg2 harg3 x0 x1 L u t l hu ht hl hR 8) (h9 :
      a9 = ld v harg2 harg3 x0 x1 L u t l hu ht hl hR 9) (h10 : a10 = ld v harg2 harg3 x0 x1 L u t l hu ht hl hR 10) (h11 : a11 = ld v
      harg2 harg3 x0 x1 L u t l hu ht hl hR 11) (h12 : a12 = ld v harg2 harg3 x0 x1 L u t l hu ht hl hR 12) (h13 : a13 = ld v harg2
      harg3 x0 x1 L u t l hu ht hl hR 13) (h14 : a14 = ld v harg2 harg3 x0 x1 L u t l hu ht hl hR 14) (h15 : a15 = ld v harg2 harg3 x0
      x1 L u t l hu ht hl hR 15) :
    SB y = bb x0 x1 x2 ⟨8 * t + (y 0).val, lt0 y ht⟩ ⟨128 * l + (y 1).val, lt1 y hl⟩ := by
  subst eb hg
  rw [Quant.sbV_at, load2, pay5_at, unit_a v harg2 harg3 x0 x1 u t l hu ht hl L a0 a1 a2 a3 a4 a5 a6 a7 a8 a9 a10 a11 a12 a13 a14 a15 y h0 h1 h2 h3 h4 h5 h6 h7 h8 h9 h10 h11 h12 h13 h14 h15]
  rfl

/-- The block scales, reshaped. -/
theorem unit_b' (SBc SB SG : FVec Ideal S8x128 .f32) (a0 a1 a2 a3 a4 a5 a6 a7 a8 a9 a10 a11 a12 a13 a14 a15 : FVec Ideal S8x128 .f32) (y : S8x128.Idx)
    (ec : SBc = shapeCast S8x128 SB shapeCasts_S8x128_S8x128)
    (eb : SB = Quant.sbV S8x128
      (maximumf (maximumf (maximumf (maximumf (absf (addf (addf (addf (addf a0 a1) (addf a2 a3)) (addf (addf a4 a5) (addf a6 a7))) (addf
      (addf (addf a8 a9) (addf a10 a11)) (addf (addf a12 a13) (addf a14 a15))))) (absf (addf (addf (addf (subf a0 a1) (subf a2 a3))
      (addf (subf a4 a5) (subf a6 a7))) (addf (addf (subf a8 a9) (subf a10 a11)) (addf (subf a12 a13) (subf a14 a15)))))) (maximumf
      (absf (addf (addf (subf (addf a0 a1) (addf a2 a3)) (subf (addf a4 a5) (addf a6 a7))) (addf (subf (addf a8 a9) (addf a10 a11))
      (subf (addf a12 a13) (addf a14 a15))))) (absf (addf (addf (subf (subf a0 a1) (subf a2 a3)) (subf (subf a4 a5) (subf a6 a7))) (addf
      (subf (subf a8 a9) (subf a10 a11)) (subf (subf a12 a13) (subf a14 a15))))))) (maximumf (maximumf (absf (addf (subf (addf (addf a0
      a1) (addf a2 a3)) (addf (addf a4 a5) (addf a6 a7))) (subf (addf (addf a8 a9) (addf a10 a11)) (addf (addf a12 a13) (addf a14
      a15))))) (absf (addf (subf (addf (subf a0 a1) (subf a2 a3)) (addf (subf a4 a5) (subf a6 a7))) (subf (addf (subf a8 a9) (subf a10
      a11)) (addf (subf a12 a13) (subf a14 a15)))))) (maximumf (absf (addf (subf (subf (addf a0 a1) (addf a2 a3)) (subf (addf a4 a5)
      (addf a6 a7))) (subf (subf (addf a8 a9) (addf a10 a11)) (subf (addf a12 a13) (addf a14 a15))))) (absf (addf (subf (subf (subf a0
      a1) (subf a2 a3)) (subf (subf a4 a5) (subf a6 a7))) (subf (subf (subf a8 a9) (subf a10 a11)) (subf (subf a12 a13) (subf a14
      a15)))))))) (maximumf (maximumf (maximumf (absf (subf (addf (addf (addf a0 a1) (addf a2 a3)) (addf (addf a4 a5) (addf a6 a7)))
      (addf (addf (addf a8 a9) (addf a10 a11)) (addf (addf a12 a13) (addf a14 a15))))) (absf (subf (addf (addf (subf a0 a1) (subf a2
      a3)) (addf (subf a4 a5) (subf a6 a7))) (addf (addf (subf a8 a9) (subf a10 a11)) (addf (subf a12 a13) (subf a14 a15)))))) (maximumf
      (absf (subf (addf (subf (addf a0 a1) (addf a2 a3)) (subf (addf a4 a5) (addf a6 a7))) (addf (subf (addf a8 a9) (addf a10 a11))
      (subf (addf a12 a13) (addf a14 a15))))) (absf (subf (addf (subf (subf a0 a1) (subf a2 a3)) (subf (subf a4 a5) (subf a6 a7))) (addf
      (subf (subf a8 a9) (subf a10 a11)) (subf (subf a12 a13) (subf a14 a15))))))) (maximumf (maximumf (absf (subf (subf (addf (addf a0
      a1) (addf a2 a3)) (addf (addf a4 a5) (addf a6 a7))) (subf (addf (addf a8 a9) (addf a10 a11)) (addf (addf a12 a13) (addf a14
      a15))))) (absf (subf (subf (addf (subf a0 a1) (subf a2 a3)) (addf (subf a4 a5) (subf a6 a7))) (subf (addf (subf a8 a9) (subf a10
      a11)) (addf (subf a12 a13) (subf a14 a15)))))) (maximumf (absf (subf (subf (subf (addf a0 a1) (addf a2 a3)) (subf (addf a4 a5)
      (addf a6 a7))) (subf (subf (addf a8 a9) (addf a10 a11)) (subf (addf a12 a13) (addf a14 a15))))) (absf (subf (subf (subf (subf a0
      a1) (subf a2 a3)) (subf (subf a4 a5) (subf a6 a7))) (subf (subf (subf a8 a9) (subf a10 a11)) (subf (subf a12 a13) (subf a14
      a15))))))))) SG)
    (hg : SG = k0_pay5 (F := Ideal) (View.readAt (Elt Ideal) arg4.view (Rect.unit (s := S1x24) ![0, 0] S1x24.size inb_S1x24_S1x24_0_0).toLoadRect (harg4.unread x2)))
    (h0 : a0 = ld v harg2 harg3 x0 x1 L u t l hu ht hl hR 0) (h1 : a1 = ld v harg2 harg3 x0 x1 L u t l hu ht hl hR 1) (h2 : a2 = ld v
      harg2 harg3 x0 x1 L u t l hu ht hl hR 2) (h3 : a3 = ld v harg2 harg3 x0 x1 L u t l hu ht hl hR 3) (h4 : a4 = ld v harg2 harg3 x0
      x1 L u t l hu ht hl hR 4) (h5 : a5 = ld v harg2 harg3 x0 x1 L u t l hu ht hl hR 5) (h6 : a6 = ld v harg2 harg3 x0 x1 L u t l hu ht
      hl hR 6) (h7 : a7 = ld v harg2 harg3 x0 x1 L u t l hu ht hl hR 7) (h8 : a8 = ld v harg2 harg3 x0 x1 L u t l hu ht hl hR 8) (h9 :
      a9 = ld v harg2 harg3 x0 x1 L u t l hu ht hl hR 9) (h10 : a10 = ld v harg2 harg3 x0 x1 L u t l hu ht hl hR 10) (h11 : a11 = ld v
      harg2 harg3 x0 x1 L u t l hu ht hl hR 11) (h12 : a12 = ld v harg2 harg3 x0 x1 L u t l hu ht hl hR 12) (h13 : a13 = ld v harg2
      harg3 x0 x1 L u t l hu ht hl hR 13) (h14 : a14 = ld v harg2 harg3 x0 x1 L u t l hu ht hl hR 14) (h15 : a15 = ld v harg2 harg3 x0
      x1 L u t l hu ht hl hR 15) :
    SBc y = bb x0 x1 x2 ⟨8 * t + (y 0).val, lt0 y ht⟩ ⟨128 * l + (y 1).val, lt1 y hl⟩ := by
  rw [ec, shapeCast_self]
  exact unit_b v harg2 harg3 harg4 x0 x1 x2 u t l hu ht hl L SB SG a0 a1 a2 a3 a4 a5 a6 a7 a8 a9 a10 a11 a12 a13 a14 a15 y eb hg h0 h1 h2 h3 h4 h5 h6 h7 h8 h9 h10 h11 h12 h13 h14 h15

theorem hRW {u : ℕ} {hu : u < 4} (j : ℕ) (hj : j < 8) : S16x128.numel = (LoadsW.tile u j hu hj).shape.numel := by
  show _ = (Shape.mk 3 ![1, 16, 128]).numel
  decide

/-- The scaled values, as read back a group at a time. -/
theorem unit_w (v' : View sig .tc sp S4x136x128 .f32) (L' : List (View.Piece (Elt Ideal) S4x136x128 .f32))
    (g : ℕ) (hg : g < 8) (x : S16x128.Idx)
    (V0 V1 V2 V3 V4 V5 V6 V7 V8 V9 V10 V11 V12 V13 V14 V15 R SB SG a0 a1 a2 a3 a4 a5 a6 a7 a8 a9 a10 a11 a12 a13 a14 a15 : FVec Ideal S8x128 .f32)
    (er : R = Quant.rV S8x128 SB SG)
    (eb : SB = Quant.sbV S8x128
      (maximumf (maximumf (maximumf (maximumf (absf V0) (absf V1)) (maximumf (absf V2) (absf V3))) (maximumf (maximumf (absf V4) (absf
      V5)) (maximumf (absf V6) (absf V7)))) (maximumf (maximumf (maximumf (absf V8) (absf V9)) (maximumf (absf V10) (absf V11)))
      (maximumf (maximumf (absf V12) (absf V13)) (maximumf (absf V14) (absf V15))))) SG)
    (eg : SG = k0_pay5 (F := Ideal) (View.readAt (Elt Ideal) arg4.view (Rect.unit (s := S1x24) ![0, 0] S1x24.size inb_S1x24_S1x24_0_0).toLoadRect (harg4.unread x2)))
    (e0 : V0 = (addf (addf (addf (addf a0 a1) (addf a2 a3)) (addf (addf a4 a5) (addf a6 a7))) (addf (addf (addf a8 a9) (addf a10 a11))
      (addf (addf a12 a13) (addf a14 a15))))) (e1 : V1 = (addf (addf (addf (subf a0 a1) (subf a2 a3)) (addf (subf a4 a5) (subf a6 a7)))
      (addf (addf (subf a8 a9) (subf a10 a11)) (addf (subf a12 a13) (subf a14 a15))))) (e2 : V2 = (addf (addf (subf (addf a0 a1) (addf
      a2 a3)) (subf (addf a4 a5) (addf a6 a7))) (addf (subf (addf a8 a9) (addf a10 a11)) (subf (addf a12 a13) (addf a14 a15))))) (e3 :
      V3 = (addf (addf (subf (subf a0 a1) (subf a2 a3)) (subf (subf a4 a5) (subf a6 a7))) (addf (subf (subf a8 a9) (subf a10 a11)) (subf
      (subf a12 a13) (subf a14 a15))))) (e4 : V4 = (addf (subf (addf (addf a0 a1) (addf a2 a3)) (addf (addf a4 a5) (addf a6 a7))) (subf
      (addf (addf a8 a9) (addf a10 a11)) (addf (addf a12 a13) (addf a14 a15))))) (e5 : V5 = (addf (subf (addf (subf a0 a1) (subf a2 a3))
      (addf (subf a4 a5) (subf a6 a7))) (subf (addf (subf a8 a9) (subf a10 a11)) (addf (subf a12 a13) (subf a14 a15))))) (e6 : V6 =
      (addf (subf (subf (addf a0 a1) (addf a2 a3)) (subf (addf a4 a5) (addf a6 a7))) (subf (subf (addf a8 a9) (addf a10 a11)) (subf
      (addf a12 a13) (addf a14 a15))))) (e7 : V7 = (addf (subf (subf (subf a0 a1) (subf a2 a3)) (subf (subf a4 a5) (subf a6 a7))) (subf
      (subf (subf a8 a9) (subf a10 a11)) (subf (subf a12 a13) (subf a14 a15))))) (e8 : V8 = (subf (addf (addf (addf a0 a1) (addf a2 a3))
      (addf (addf a4 a5) (addf a6 a7))) (addf (addf (addf a8 a9) (addf a10 a11)) (addf (addf a12 a13) (addf a14 a15))))) (e9 : V9 =
      (subf (addf (addf (subf a0 a1) (subf a2 a3)) (addf (subf a4 a5) (subf a6 a7))) (addf (addf (subf a8 a9) (subf a10 a11)) (addf
      (subf a12 a13) (subf a14 a15))))) (e10 : V10 = (subf (addf (subf (addf a0 a1) (addf a2 a3)) (subf (addf a4 a5) (addf a6 a7)))
      (addf (subf (addf a8 a9) (addf a10 a11)) (subf (addf a12 a13) (addf a14 a15))))) (e11 : V11 = (subf (addf (subf (subf a0 a1) (subf
      a2 a3)) (subf (subf a4 a5) (subf a6 a7))) (addf (subf (subf a8 a9) (subf a10 a11)) (subf (subf a12 a13) (subf a14 a15))))) (e12 :
      V12 = (subf (subf (addf (addf a0 a1) (addf a2 a3)) (addf (addf a4 a5) (addf a6 a7))) (subf (addf (addf a8 a9) (addf a10 a11))
      (addf (addf a12 a13) (addf a14 a15))))) (e13 : V13 = (subf (subf (addf (subf a0 a1) (subf a2 a3)) (addf (subf a4 a5) (subf a6
      a7))) (subf (addf (subf a8 a9) (subf a10 a11)) (addf (subf a12 a13) (subf a14 a15))))) (e14 : V14 = (subf (subf (subf (addf a0 a1)
      (addf a2 a3)) (subf (addf a4 a5) (addf a6 a7))) (subf (subf (addf a8 a9) (addf a10 a11)) (subf (addf a12 a13) (addf a14 a15)))))
      (e15 : V15 = (subf (subf (subf (subf a0 a1) (subf a2 a3)) (subf (subf a4 a5) (subf a6 a7))) (subf (subf (subf a8 a9) (subf a10
      a11)) (subf (subf a12 a13) (subf a14 a15)))))
    (h0 : a0 = ld v harg2 harg3 x0 x1 L u t l hu ht hl hR 0) (h1 : a1 = ld v harg2 harg3 x0 x1 L u t l hu ht hl hR 1) (h2 : a2 = ld v
      harg2 harg3 x0 x1 L u t l hu ht hl hR 2) (h3 : a3 = ld v harg2 harg3 x0 x1 L u t l hu ht hl hR 3) (h4 : a4 = ld v harg2 harg3 x0
      x1 L u t l hu ht hl hR 4) (h5 : a5 = ld v harg2 harg3 x0 x1 L u t l hu ht hl hR 5) (h6 : a6 = ld v harg2 harg3 x0 x1 L u t l hu ht
      hl hR 6) (h7 : a7 = ld v harg2 harg3 x0 x1 L u t l hu ht hl hR 7) (h8 : a8 = ld v harg2 harg3 x0 x1 L u t l hu ht hl hR 8) (h9 :
      a9 = ld v harg2 harg3 x0 x1 L u t l hu ht hl hR 9) (h10 : a10 = ld v harg2 harg3 x0 x1 L u t l hu ht hl hR 10) (h11 : a11 = ld v
      harg2 harg3 x0 x1 L u t l hu ht hl hR 11) (h12 : a12 = ld v harg2 harg3 x0 x1 L u t l hu ht hl hR 12) (h13 : a13 = ld v harg2
      harg3 x0 x1 L u t l hu ht hl hR 13) (h14 : a14 = ld v harg2 harg3 x0 x1 L u t l hu ht hl hR 14) (h15 : a15 = ld v harg2 harg3 x0
      x1 L u t l hu ht hl hR 15) :
    v'.readCov (LoadsW.spread u 15 hu (by decide) (shapeCast S8x128 (Quant.wV S8x128 V15 R) shapeCasts_S8x128_S8x128) :: LoadsW.spread u 14 hu (by
      decide) (shapeCast S8x128 (Quant.wV S8x128 V14 R) shapeCasts_S8x128_S8x128) :: LoadsW.spread u 13 hu (by decide) (shapeCast S8x128
      (Quant.wV S8x128 V13 R) shapeCasts_S8x128_S8x128) :: LoadsW.spread u 12 hu (by decide) (shapeCast S8x128 (Quant.wV S8x128 V12 R)
      shapeCasts_S8x128_S8x128) :: LoadsW.spread u 11 hu (by decide) (shapeCast S8x128 (Quant.wV S8x128 V11 R) shapeCasts_S8x128_S8x128)
      :: LoadsW.spread u 10 hu (by decide) (shapeCast S8x128 (Quant.wV S8x128 V10 R) shapeCasts_S8x128_S8x128) :: LoadsW.spread u 9 hu
      (by decide) (shapeCast S8x128 (Quant.wV S8x128 V9 R) shapeCasts_S8x128_S8x128) :: LoadsW.spread u 8 hu (by decide) (shapeCast
      S8x128 (Quant.wV S8x128 V8 R) shapeCasts_S8x128_S8x128) :: LoadsW.spread u 7 hu (by decide) (shapeCast S8x128 (Quant.wV S8x128 V7
      R) shapeCasts_S8x128_S8x128) :: LoadsW.spread u 6 hu (by decide) (shapeCast S8x128 (Quant.wV S8x128 V6 R)
      shapeCasts_S8x128_S8x128) :: LoadsW.spread u 5 hu (by decide) (shapeCast S8x128 (Quant.wV S8x128 V5 R) shapeCasts_S8x128_S8x128)
      :: LoadsW.spread u 4 hu (by decide) (shapeCast S8x128 (Quant.wV S8x128 V4 R) shapeCasts_S8x128_S8x128) :: LoadsW.spread u 3 hu (by
      decide) (shapeCast S8x128 (Quant.wV S8x128 V3 R) shapeCasts_S8x128_S8x128) :: LoadsW.spread u 2 hu (by decide) (shapeCast S8x128
      (Quant.wV S8x128 V2 R) shapeCasts_S8x128_S8x128) :: LoadsW.spread u 1 hu (by decide) (shapeCast S8x128 (Quant.wV S8x128 V1 R)
      shapeCasts_S8x128_S8x128) :: LoadsW.spread u 0 hu (by decide) (shapeCast S8x128 (Quant.wV S8x128 V0 R) shapeCasts_S8x128_S8x128) :: L') (LoadsW.tile u g hu hg) (Shape.reshapeEquiv (hRW g hg) x)
      = ww x0 x1 x2 ⟨8 * t + g, by omega⟩ ⟨128 * l + (x 1).val, by have : (x 1).val < 128 := (x 1).isLt; omega⟩ (x 0) := by
  have ea := unit_a v harg2 harg3 x0 x1 u t l hu ht hl L a0 a1 a2 a3 a4 a5 a6 a7 a8 a9 a10 a11 a12 a13 a14 a15 (ix2 ⟨g, hg⟩ (x 1)) h0 h1 h2 h3 h4 h5 h6 h7 h8 h9 h10 h11 h12 h13 h14 h15
  have hrot := fun i => rot_apply v harg2 harg3 x0 x1 L u t l hu ht hl hR i (ix2 ⟨g, hg⟩ (x 1))
  refine (congrFun (LoadsW.tile_load (Val := Elt Ideal) v' u g hu hg
    (![shapeCast S8x128 (Quant.wV S8x128 V0 R) shapeCasts_S8x128_S8x128, shapeCast S8x128 (Quant.wV S8x128 V1 R) shapeCasts_S8x128_S8x128, shapeCast S8x128 (Quant.wV S8x128 V2 R) shapeCasts_S8x128_S8x128, shapeCast S8x128 (Quant.wV S8x128 V3 R) shapeCasts_S8x128_S8x128, shapeCast S8x128 (Quant.wV S8x128 V4 R) shapeCasts_S8x128_S8x128, shapeCast S8x128 (Quant.wV S8x128 V5 R) shapeCasts_S8x128_S8x128, shapeCast S8x128 (Quant.wV S8x128 V6 R) shapeCasts_S8x128_S8x128, shapeCast S8x128 (Quant.wV S8x128 V7 R) shapeCasts_S8x128_S8x128, shapeCast S8x128 (Quant.wV S8x128 V8 R) shapeCasts_S8x128_S8x128, shapeCast S8x128 (Quant.wV S8x128 V9 R) shapeCasts_S8x128_S8x128, shapeCast S8x128 (Quant.wV S8x128 V10 R) shapeCasts_S8x128_S8x128, shapeCast S8x128 (Quant.wV S8x128 V11 R) shapeCasts_S8x128_S8x128, shapeCast S8x128 (Quant.wV S8x128 V12 R) shapeCasts_S8x128_S8x128, shapeCast S8x128 (Quant.wV S8x128 V13 R) shapeCasts_S8x128_S8x128, shapeCast S8x128 (Quant.wV S8x128 V14 R) shapeCasts_S8x128_S8x128, shapeCast S8x128 (Quant.wV S8x128 V15 R) shapeCasts_S8x128_S8x128] : Fin 16 → FVec Ideal S8x128 .f32) L' (hRW g hg)) x).trans ?_
  have hb : SB (ix2 ⟨g, hg⟩ (x 1)) = bb x0 x1 x2 ⟨8 * t + g, by omega⟩ ⟨128 * l + (x 1).val, by have : (x 1).val < 128 := (x 1).isLt; omega⟩ := by
    subst eb eg e0 e1 e2 e3 e4 e5 e6 e7 e8 e9 e10 e11 e12 e13 e14 e15
    rw [Quant.sbV_at, load2, pay5_at, ea]
    rfl
  have hr : R (ix2 ⟨g, hg⟩ (x 1)) = Quant.r1 (bb x0 x1 x2 ⟨8 * t + g, by omega⟩ ⟨128 * l + (x 1).val, by have : (x 1).val < 128 := (x 1).isLt; omega⟩) (gg x2) := by
    subst er eg
    rw [Quant.rV_at, hb, load2, pay5_at]
  clear ea hb er eb eg
  have key : ∀ (i : Fin 16) (W : FVec Ideal S8x128 .f32), W = Had.rot addf subf (ld v harg2 harg3 x0 x1 L u t l hu ht hl hR) i →
      shapeCast S8x128 (Quant.wV S8x128 W R) shapeCasts_S8x128_S8x128 (ix2 ⟨g, hg⟩ (x 1)) = ww x0 x1 x2 ⟨8 * t + g, by omega⟩ ⟨128 * l + (x 1).val, by have : (x 1).val < 128 := (x 1).isLt; omega⟩ i := by
    intro i W hW
    rw [shapeCast_self, Quant.wV_at, hr, hW, hrot i]
    rfl
  subst h0 h1 h2 h3 h4 h5 h6 h7 h8 h9 h10 h11 h12 h13 h14 h15
  generalize x 0 = i
  fin_cases i
  · exact key 0 V0 e0
  · exact key 1 V1 e1
  · exact key 2 V2 e2
  · exact key 3 V3 e3
  · exact key 4 V4 e4
  · exact key 5 V5 e5
  · exact key 6 V6 e6
  · exact key 7 V7 e7
  · exact key 8 V8 e8
  · exact key 9 V9 e9
  · exact key 10 V10 e10
  · exact key 11 V11 e11
  · exact key 12 V12 e12
  · exact key 13 V13 e13
  · exact key 14 V14 e14
  · exact key 15 V15 e15

end Cert.Unit

end
-- ==== Proof.Unit3.lean ====
/- What a quarter of the block stores of the block scales, and the running largest magnitude. -/
module

public import proofs.«01_k».proof.Proof.Unit2
public import Idealize.ShloMosaic.Lib.Pipeline.FrameBody
public import Idealize.ShloMosaic.Lib.Pipeline.CanonAppend

@[expose] public section

set_option maxRecDepth 16384

noncomputable section

namespace Cert.Unit

open Cert.KernelXIdeal Cert.KernelXIdeal.Gen Idealize.ShloMosaic Idealize.ShloMosaic.TcCoe Idealize.SL.Sem

/-- Four strips of eight rows, read back whole. -/
theorem strips {sp : Space} (v : View sig .tc sp S32x128 .f32) (G : Fin 32 → Fin 128 → EReal) (q0 q1 q2 q3 : FVec Ideal S8x128 .f32)
    (i0 : ∀ a, (![0, 0] : Fin 2 → ℕ) a + S8x128.size a ≤ S32x128.size a) (i1 : ∀ a, (![8, 0] : Fin 2 → ℕ) a + S8x128.size a ≤ S32x128.size a)
    (i2 : ∀ a, (![16, 0] : Fin 2 → ℕ) a + S8x128.size a ≤ S32x128.size a) (i3 : ∀ a, (![24, 0] : Fin 2 → ℕ) a + S8x128.size a ≤ S32x128.size a)
    (iw : ∀ a, (![0, 0] : Fin 2 → ℕ) a + S32x128.size a ≤ S32x128.size a)
    (L : List (View.Piece (Elt Ideal) S32x128 .f32)) (x : S32x128.Idx)
    (h0 : ∀ y, q0 y = G ⟨8 * 0 + (y 0).val, lt0 y (by decide)⟩ (y 1)) (h1 : ∀ y, q1 y = G ⟨8 * 1 + (y 0).val, lt0 y (by decide)⟩ (y 1))
    (h2 : ∀ y, q2 y = G ⟨8 * 2 + (y 0).val, lt0 y (by decide)⟩ (y 1)) (h3 : ∀ y, q3 y = G ⟨8 * 3 + (y 0).val, lt0 y (by decide)⟩ (y 1)) :
    v.readCov (⟨Rect.unit (s := S32x128) ![24, 0] S8x128.size i3, q3⟩ :: ⟨Rect.unit (s := S32x128) ![16, 0] S8x128.size i2, q2⟩
      :: ⟨Rect.unit (s := S32x128) ![8, 0] S8x128.size i1, q1⟩ :: ⟨Rect.unit (s := S32x128) ![0, 0] S8x128.size i0, q0⟩ :: L)
      (Rect.unit (s := S32x128) ![0, 0] S32x128.size iw).toLoadRect x = G (x 0) (x 1) := by
  rw [View.readCov_eq_canon']
  have ex : (Rect.unit (s := S32x128) ![0, 0] S32x128.size iw).toLoadRect.idx x = x := by
    funext a
    refine Fin.ext ?_
    fin_cases a
    · show 0 + 1 * (x 0).val = (x 0).val; omega
    · show 0 + 1 * (x 1).val = (x 1).val; omega
  show View.canon _ ((Rect.unit (s := S32x128) ![0, 0] S32x128.size iw).toLoadRect.idx x) = _
  rw [ex]
  have hx0 : (x 0).val < 32 := (x 0).isLt
  have hx1 : (x 1).val < 128 := (x 1).isLt
  refine View.canon_append_of_pieces (Val := Elt Ideal) (S := S32x128) (e := .f32) (fun x => G (x 0) (x 1)) L
    [⟨Rect.unit (s := S32x128) ![24, 0] S8x128.size i3, q3⟩, ⟨Rect.unit (s := S32x128) ![16, 0] S8x128.size i2, q2⟩,
      ⟨Rect.unit (s := S32x128) ![8, 0] S8x128.size i1, q1⟩, ⟨Rect.unit (s := S32x128) ![0, 0] S8x128.size i0, q0⟩] ?_ x ?_
  · refine List.forall_mem_cons.mpr ⟨fun y => (h3 y).trans ?_, List.forall_mem_cons.mpr ⟨fun y => (h2 y).trans ?_,
      List.forall_mem_cons.mpr ⟨fun y => (h1 y).trans ?_, List.forall_mem_cons.mpr ⟨fun y => (h0 y).trans ?_, fun _ h => nomatch h⟩⟩⟩⟩
    all_goals
      refine congrArg₂ G (Fin.ext ?_) (Fin.ext ?_)
    · show 8 * 3 + (y 0).val = 24 + 1 * (y 0).val; omega
    · show (y 1).val = 0 + 1 * (y 1).val; omega
    · show 8 * 2 + (y 0).val = 16 + 1 * (y 0).val; omega
    · show (y 1).val = 0 + 1 * (y 1).val; omega
    · show 8 * 1 + (y 0).val = 8 + 1 * (y 0).val; omega
    · show (y 1).val = 0 + 1 * (y 1).val; omega
    · show 8 * 0 + (y 0).val = 0 + 1 * (y 0).val; omega
    · show (y 1).val = 0 + 1 * (y 1).val; omega
  · have mem : ∀ (o : ℕ) (io : ∀ a, (![o, 0] : Fin 2 → ℕ) a + S8x128.size a ≤ S32x128.size a), o ≤ (x 0).val → (x 0).val < o + 8 →
        x ∈ (Rect.unit (s := S32x128) ![o, 0] S8x128.size io).set := by
      intro o io ho ho'
      refine (LoadRect.mem_set _).mpr fun a => ?_
      fin_cases a
      · exact ⟨(x 0).val - o, show (x 0).val - o < 8 by omega, show (x 0).val = o + 1 * ((x 0).val - o) by omega⟩
      · exact ⟨(x 1).val, hx1, show (x 1).val = 0 + 1 * (x 1).val by omega⟩
    by_cases c3 : 24 ≤ (x 0).val
    · exact ⟨_, .head _, mem 24 i3 c3 (by omega)⟩
    by_cases c2 : 16 ≤ (x 0).val
    · exact ⟨_, .tail _ (.head _), mem 16 i2 c2 (by omega)⟩
    by_cases c1 : 8 ≤ (x 0).val
    · exact ⟨_, .tail _ (.tail _ (.head _)), mem 8 i1 c1 (by omega)⟩
    · exact ⟨_, .tail _ (.tail _ (.tail _ (.head _))), mem 0 i0 (by omega) (by omega)⟩

/-- The same as a piece of the stored block. -/
theorem strips_emb {sp : Space} (v : View sig .tc sp S32x128 .f32) (G : Fin 32 → Fin 512 → EReal) (l : ℕ) (hl : l < 4) (q0 q1 q2 q3 : FVec Ideal S8x128 .f32)
    (h : ∀ a, (![0, 128 * l] : Fin 2 → ℕ) a + S32x128.size a ≤ S32x512.size a)
    (i0 : ∀ a, (![0, 0] : Fin 2 → ℕ) a + S8x128.size a ≤ S32x128.size a) (i1 : ∀ a, (![8, 0] : Fin 2 → ℕ) a + S8x128.size a ≤ S32x128.size a)
    (i2 : ∀ a, (![16, 0] : Fin 2 → ℕ) a + S8x128.size a ≤ S32x128.size a) (i3 : ∀ a, (![24, 0] : Fin 2 → ℕ) a + S8x128.size a ≤ S32x128.size a)
    (iw : ∀ a, (![0, 0] : Fin 2 → ℕ) a + S32x128.size a ≤ S32x128.size a)
    (L : List (View.Piece (Elt Ideal) S32x128 .f32)) (x : S32x128.Idx)
    (h0 : ∀ y, q0 y = G ⟨8 * 0 + (y 0).val, lt0 y (by decide)⟩ ⟨128 * l + (y 1).val, lt1 y hl⟩)
    (h1 : ∀ y, q1 y = G ⟨8 * 1 + (y 0).val, lt0 y (by decide)⟩ ⟨128 * l + (y 1).val, lt1 y hl⟩)
    (h2 : ∀ y, q2 y = G ⟨8 * 2 + (y 0).val, lt0 y (by decide)⟩ ⟨128 * l + (y 1).val, lt1 y hl⟩)
    (h3 : ∀ y, q3 y = G ⟨8 * 3 + (y 0).val, lt0 y (by decide)⟩ ⟨128 * l + (y 1).val, lt1 y hl⟩) :
    truncf (F := Ideal) .fp8e4m3 (v.readCov (⟨Rect.unit (s := S32x128) ![24, 0] S8x128.size i3, q3⟩ :: ⟨Rect.unit (s := S32x128) ![16, 0] S8x128.size i2, q2⟩
      :: ⟨Rect.unit (s := S32x128) ![8, 0] S8x128.size i1, q1⟩ :: ⟨Rect.unit (s := S32x128) ![0, 0] S8x128.size i0, q0⟩ :: L)
      (Rect.unit (s := S32x128) ![0, 0] S32x128.size iw).toLoadRect : FVec Ideal S32x128 .f32) bitsLt_fp8e4m3_f32 x
      = (fun y : S32x512.Idx => G (y 0) (y 1)) ((Rect.unit (s := S32x512) ![0, 128 * l] S32x128.size h).emb x) := by
  refine (strips v (fun r c => G r ⟨128 * l + c.val, by have := c.isLt; omega⟩) q0 q1 q2 q3 i0 i1 i2 i3 iw L x h0 h1 h2 h3).trans ?_
  show G _ _ = G _ _
  refine congrArg₂ G (Fin.ext ?_) (Fin.ext ?_)
  · show (x 0).val = 0 + 1 * (x 0).val; omega
  · show 128 * l + (x 1).val = 128 * l + 1 * (x 1).val; omega

theorem pay3_at {arg4 : Memref sig .tc .vmem S1x24 .f32} (harg4 : arg4.IsWhole) (x2 : Vec Ideal S1x24 .f32)
    (h : ∀ a, (![0, 0] : Fin 2 → ℕ) a + S1x24.size a ≤ S1x24.size a) (x : S1x1.Idx) :
    k0_pay3 (F := Ideal) (View.readAt (Elt Ideal) arg4.view (Rect.unit (s := S1x24) ![0, 0] S1x24.size h).toLoadRect (harg4.unread x2)) x = gg x2 := by
  rw [load2]
  unfold gg
  refine congrArg (k0_pay3 x2) (funext fun a => Fin.ext ?_)
  have := (x a).isLt
  fin_cases a
  · have h : (x 0).val < 1 := (x 0).isLt
    show (x 0).val = 0; omega
  · have h : (x 1).val < 1 := (x 1).isLt
    show (x 1).val = 0; omega

theorem canon_whole (w : FVec Ideal S8x128 .f32) (h : ∀ a, (![0, 0] : Fin 2 → ℕ) a + S8x128.size a ≤ S8x128.size a)
    (L : List (View.Piece (Elt Ideal) S8x128 .f32)) (y : S8x128.Idx) :
    View.canon (⟨Rect.unit (s := S8x128) ![0, 0] S8x128.size h, w⟩ :: L) y = w y := by
  have e : (Rect.unit (s := S8x128) ![0, 0] S8x128.size h).emb y = y := by
    funext a
    refine Fin.ext ?_
    fin_cases a
    · show 0 + 1 * (y 0).val = (y 0).val; omega
    · show 0 + 1 * (y 1).val = (y 1).val; omega
  have := View.canon_cons_emb (Val := Elt Ideal) (Rect.unit (s := S8x128) ![0, 0] S8x128.size h) w L y
  rwa [e] at this

theorem canon_whole1 (w : FVec Ideal S1x1 .f32) (h : ∀ a, (![0, 0] : Fin 2 → ℕ) a + S1x1.size a ≤ S1x1.size a)
    (L : List (View.Piece (Elt Ideal) S1x1 .f32)) (y : S1x1.Idx) :
    View.canon (⟨Rect.unit (s := S1x1) ![0, 0] S1x1.size h, w⟩ :: L) y = w y := by
  have e : (Rect.unit (s := S1x1) ![0, 0] S1x1.size h).emb y = y := by
    funext a
    refine Fin.ext ?_
    fin_cases a
    · show 0 + 1 * (y 0).val = (y 0).val; omega
    · show 0 + 1 * (y 1).val = (y 1).val; omega
  have := View.canon_cons_emb (Val := Elt Ideal) (Rect.unit (s := S1x1) ![0, 0] S1x1.size h) w L y
  rwa [e] at this

theorem canon_whole_le (w : FVec Ideal S8x128 .f32) (h : ∀ a, (![0, 0] : Fin 2 → ℕ) a + S8x128.size a ≤ S8x128.size a)
    (L : List (View.Piece (Elt Ideal) S8x128 .f32)) (y : S8x128.Idx) (b : EReal) :
    (View.canon (⟨Rect.unit (s := S8x128) ![0, 0] S8x128.size h, w⟩ :: L) y : EReal) ≤ b ↔ (w y : EReal) ≤ b := by
  rw [canon_whole]

theorem canon_cast_le (w : FVec Ideal S8x128 .f32) (h : ∀ a, (![0, 0] : Fin 2 → ℕ) a + S8x128.size a ≤ S8x128.size a)
    (L : List (View.Piece (Elt Ideal) S8x128 .f32)) (y : S8x128.Idx) (b : EReal) :
    (View.canon (⟨Rect.unit (s := S8x128) ![0, 0] S8x128.size h, shapeCast S8x128 w shapeCasts_S8x128_S8x128⟩ :: L) y : EReal) ≤ b ↔ (w y : EReal) ≤ b := by
  rw [canon_whole, shapeCast_self]

theorem canon_whole1_le (w : FVec Ideal S1x1 .f32) (h : ∀ a, (![0, 0] : Fin 2 → ℕ) a + S1x1.size a ≤ S1x1.size a)
    (L : List (View.Piece (Elt Ideal) S1x1 .f32)) (y : S1x1.Idx) (b : EReal) :
    (View.canon (⟨Rect.unit (s := S1x1) ![0, 0] S1x1.size h, w⟩ :: L) y : EReal) ≤ b ↔ (w y : EReal) ≤ b := by
  rw [canon_whole1]

theorem load_zero {sp : Space} (v : View sig .tc sp S8x128 .f32) (w : FVec Ideal S8x128 .f32) (hw : w = fun _ => (0 : EReal))
    (h h' : ∀ a, (![0, 0] : Fin 2 → ℕ) a + S8x128.size a ≤ S8x128.size a) (L : List (View.Piece (Elt Ideal) S8x128 .f32)) (y : S8x128.Idx) :
    v.readCov (⟨Rect.unit (s := S8x128) ![0, 0] S8x128.size h, w⟩ :: L) (Rect.unit (s := S8x128) ![0, 0] S8x128.size h').toLoadRect y = (0 : EReal) := by
  rw [View.readCov_cons_toLoadRect, hw]

theorem load_mx {arg15 : Memref sig .tc .vmem S8x128 .f32} (harg15 : arg15.IsWhole) (xs : Vec Ideal S8x128 .f32)
    (h : ∀ a, (![0, 0] : Fin 2 → ℕ) a + S8x128.size a ≤ S8x128.size a) (y : S8x128.Idx) :
    View.readAt (Elt Ideal) arg15.view (Rect.unit (s := S8x128) ![0, 0] S8x128.size h).toLoadRect (harg15.unread xs) y = xs y := by
  rw [harg15.readAt_unread]
  refine congrArg xs (funext fun a => Fin.ext ?_)
  fin_cases a
  · show 0 + 1 * (y 0).val = (y 0).val; omega
  · show 0 + 1 * (y 1).val = (y 1).val; omega

theorem pay4 : k0_pay4 (F := Ideal) = fun _ => (0 : EReal) := by
  unfold k0_pay4
  show shapeCast S8x128 _ _ = _
  rw [shapeCast_self]
  funext y
  show Ideal.ofBits .f32 0#32 = 0
  simp [Ideal.ofBits, Ideal.ieee]

/-- The running largest magnitude stays below a bound exactly as the carried one and the block's do. -/
theorem mx_iff (M m0 a00 a01 a02 a03 a10 a11 a12 a13 a20 a21 a22 a23 a30 a31 a32 a33 : FVec Ideal S8x128 .f32) (y : S8x128.Idx)
    (A : Fin 4 → Fin 4 → EReal) (z b : EReal)
    (hM : M = shapeCast S8x128 (maximumf (maximumf (maximumf (maximumf (maximumf (maximumf (maximumf (maximumf (maximumf (maximumf (maximumf (maximumf
      (maximumf (maximumf (maximumf (maximumf m0 a00) a10) a20) a30) a01) a11) a21) a31) a02) a12) a22) a32) a03) a13) a23) a33) shapeCasts_S8x128_S8x128)
    (hm : m0 y = z)
    (h00 : a00 y = A 0 0) (h10 : a10 y = A 1 0) (h20 : a20 y = A 2 0) (h30 : a30 y = A 3 0)
    (h01 : a01 y = A 0 1) (h11 : a11 y = A 1 1) (h21 : a21 y = A 2 1) (h31 : a31 y = A 3 1)
    (h02 : a02 y = A 0 2) (h12 : a12 y = A 1 2) (h22 : a22 y = A 2 2) (h32 : a32 y = A 3 2)
    (h03 : a03 y = A 0 3) (h13 : a13 y = A 1 3) (h23 : a23 y = A 2 3) (h33 : a33 y = A 3 3) :
    M y ≤ b ↔ z ≤ b ∧ ∀ t l : Fin 4, A t l ≤ b := by
  have e : M y = max (max (max (max (max (max (max (max (max (max (max (max (max (max (max (max (m0 y) (a00 y)) (a10 y)) (a20 y)) (a30 y))
      (a01 y)) (a11 y)) (a21 y)) (a31 y)) (a02 y)) (a12 y)) (a22 y)) (a32 y)) (a03 y)) (a13 y)) (a23 y)) (a33 y) := by
    subst hM
    rw [shapeCast_self]
    rfl
  rw [e, hm, h00, h10, h20, h30, h01, h11, h21, h31, h02, h12, h22, h32, h03, h13, h23, h33]
  simp only [max_le_iff]
  constructor
  · rintro ⟨⟨⟨⟨⟨⟨⟨⟨⟨⟨⟨⟨⟨⟨⟨⟨g, g0⟩, g1⟩, g2⟩, g3⟩, g4⟩, g5⟩, g6⟩, g7⟩, g8⟩, g9⟩, ga⟩, gb⟩, gc⟩, gd⟩, ge⟩, gf⟩
    refine ⟨g, fun t l => ?_⟩
    fin_cases t <;> fin_cases l <;> assumption
  · rintro ⟨g, h⟩
    exact ⟨⟨⟨⟨⟨⟨⟨⟨⟨⟨⟨⟨⟨⟨⟨⟨g, h 0 0⟩, h 1 0⟩, h 2 0⟩, h 3 0⟩, h 0 1⟩, h 1 1⟩, h 2 1⟩, h 3 1⟩, h 0 2⟩, h 1 2⟩, h 2 2⟩, h 3 2⟩, h 0 3⟩,
      h 1 3⟩, h 2 3⟩, h 3 3⟩

/-- A largest element taken by a reduction is below a bound exactly as all it is taken over are. -/
theorem reduce_iff {s t : Shape} {axes : List (Fin s.rank)} (src : FVec Ideal s .f32) (h : s.Reduces axes t) (hφ : FKind.Formats .f32)
    (hacc : (4286578688#32 : BitVec FTy.f32.bits) = FKind.maximumf.neutral .f32 hφ) (j : t.Idx) (b : EReal) :
    multiReduction .maximumf axes t src 4286578688#32 h hφ hacc j ≤ b ↔ ∀ i, h.drop i = j → src i ≤ b := by
  rw [multiReduction_maximumf_eq_fold]
  have hb : (FloatOps.ofBits (F := Ideal) .f32 4286578688#32 : EReal) = ⊥ := by
    show Ideal.ofBits .f32 4286578688#32 = ⊥
    simp [Ideal.ofBits, Ideal.ieee]
  show Finset.fold (max : EReal → EReal → EReal) _ _ _ ≤ b ↔ _
  refine (Finset.fold_max_le b).trans ?_
  rw [hb]
  simp [Finset.mem_filter]

/-- The largest element of the running array. -/
theorem cur_iff (M : FVec Ideal S8x128 .f32) (z : S1x1.Idx) (b : EReal) : k0_pay2 M z ≤ b ↔ ∀ y, M y ≤ b := by
  have e : ∃ (hφ : FKind.Formats .f32) (hacc : (4286578688#32 : BitVec FTy.f32.bits) = FKind.maximumf.neutral .f32 hφ) (j : S1.Idx), k0_pay2 M z
      = multiReduction (F := Ideal) .maximumf [1, 2] S1 (shapeCast S1x8x128 M shapeCasts_S8x128_S1x8x128) 4286578688#32 reduces_S1x8x128_S1 hφ hacc j := by
    unfold k0_pay2 broadcast extractAt
    exact ⟨_, _, _, rfl⟩
  obtain ⟨hφ, hacc, j, e⟩ := e
  rw [e, reduce_iff]
  constructor
  · intro h y
    have := h ((Shape.reshapeEquiv shapeCasts_S8x128_S1x8x128).symm y) (by
      funext a
      refine Fin.ext ?_
      fin_cases a
      have h1 : ∀ k : Fin 1, k.val = 0 := fun k => by omega
      exact (h1 _).trans (h1 _).symm)
    rwa [show shapeCast S1x8x128 M shapeCasts_S8x128_S1x8x128 ((Shape.reshapeEquiv shapeCasts_S8x128_S1x8x128).symm y) = M y from
      congrArg M (Equiv.apply_symm_apply _ y)] at this
  · exact fun h i _ => h _

end Cert.Unit

end
-- ==== Proof.BlockA.lean ====
/- What a point of case A leaves: the largest magnitudes, the block scales, the global scale and the running largest
   magnitude, as functions of the operand's block. -/
module

public import proofs.«01_k».proof.Proof.Gen.KernelXIdeal.Frame
public import proofs.«01_k».proof.Proof.Unit3

@[expose] public section

set_option maxRecDepth 16384
set_option maxHeartbeats 4000000

noncomputable section

namespace Cert.BlockA

open Cert.KernelXIdeal Cert.KernelXIdeal.Gen Idealize.ShloMosaic Idealize.ShloMosaic.TcCoe Idealize.SL.Sem Cert

variable (c : Dev nD) (i : grid0.Coords) (arg2 : Memref sig .tc .smem S16 .f32) (harg2 : arg2.IsWhole) (arg3 : Memref sig .tc .vmem S512x512 .bf16) (harg3 : arg3.IsWhole) (arg4 : Memref sig .tc .vmem S1x24 .f32) (harg4 : arg4.IsWhole) (arg5 : Memref sig .tc .vmem S512x512 .bf16) (harg5 : arg5.IsWhole) (arg6 : Memref sig .tc .vmem S32x512 .f32) (harg6 : arg6.IsWhole) (arg7 : Memref sig .tc .vmem S256x512 .i8) (harg7 : arg7.IsWhole) (arg8 : Memref sig .tc .vmem S32x512 .fp8e4m3) (harg8 : arg8.IsWhole) (arg9 : Memref sig .tc .vmem S1x1 .f32) (harg9 : arg9.IsWhole) (arg10 : Memref sig .tc .vmem S1x1 .f32) (harg10 : arg10.IsWhole) (arg11 : Memref sig .tc .vmem S4x144x128 .f32) (harg11 : arg11.IsWhole) (arg12 : Memref sig .tc .vmem S4x136x128 .f32) (harg12 : arg12.IsWhole) (arg13 : Memref sig .tc .vmem S4x8x128 .f32) (harg13 : arg13.IsWhole) (arg14 : Memref sig .tc .vmem S32x128 .f32) (harg14 : arg14.IsWhole) (arg15 : Memref sig .tc .vmem S8x128 .f32) (harg15 : arg15.IsWhole) (hc0 : cond0_0 i) (hc1 : ¬cond0_1 i)
  (x0 : Vec Ideal S16 .f32) (x1 : Vec Ideal S512x512 .bf16) (x2 : Vec Ideal S1x24 .f32)

theorem a_at (y : S32x512.Idx) : out0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 y = Unit.aa x0 x1 (y 0) (y 1) := by
  unfold out0_A_4
  rw [View.read_writes_junk_apply_eq_canon]
  refine View.canon_apply_of_pieces (Val := Elt Ideal) (e := .f32) (fun y : S32x512.Idx => Unit.aa x0 x1 (y 0) (y 1)) _ ?_ y (cover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 y)
  refine List.forall_mem_cons.mpr ⟨fun x => Unit.unit_a_emb arg11.view harg2 harg3 x0 x1 3 3 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 3 3 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 3 3 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 3 3 0 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 0 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 0 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 0 (by decide) (by decide) (by decide) _ _ _ _ _ _ _ _ _ _ _ _ _ _ _ _ _ (by decide) x rfl rfl rfl rfl rfl rfl rfl rfl rfl rfl rfl rfl rfl rfl rfl rfl, ?_⟩
  exact fun _ h => nomatch h

theorem sb_at (y : S32x512.Idx) : out0_A_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 y = Unit.bb x0 x1 x2 (y 0) (y 1) := by
  unfold out0_A_6
  rw [View.read_writes_junk_apply_eq_canon]
  refine View.canon_apply_of_pieces (Val := Elt Ideal) (e := .fp8e4m3) (fun y : S32x512.Idx => Unit.bb x0 x1 x2 (y 0) (y 1)) _ ?_ y (cover0_A_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 y)
  refine List.forall_mem_cons.mpr ⟨fun x => Unit.strips_emb arg14.view (fun r c => Unit.bb x0 x1 x2 r c) 3 (by decide) _ _ _ _ (by decide) _ _ _ _ _ _ x ?_ ?_ ?_ ?_, ?_⟩
  · exact fun y => Unit.unit_b' arg11.view harg2 harg3 harg4 x0 x1 x2 0 0 3 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 3 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 3 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 3 (by decide) (by decide) (by decide) _ _ _ _ _ _ _ _ _ _ _ _ _ _ _ _ _ _ _ _ y rfl rfl rfl rfl rfl rfl rfl rfl rfl rfl rfl rfl rfl rfl rfl rfl rfl rfl rfl
  refine List.forall_mem_cons.mpr ⟨fun x => Unit.strips_emb arg14.view (fun r c => Unit.bb x0 x1 x2 r c) 2 (by decide) _ _ _ _ (by decide) _ _ _ _ _ _ x ?_ ?_ ?_ ?_, ?_⟩
  · exact fun y => Unit.unit_b' arg11.view harg2 harg3 harg4 x0 x1 x2 0 0 2 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 2 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 2 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 2 (by decide) (by decide) (by decide) _ _ _ _ _ _ _ _ _ _ _ _ _ _ _ _ _ _ _ _ y rfl rfl rfl rfl rfl rfl rfl rfl rfl rfl rfl rfl rfl rfl rfl rfl rfl rfl rfl
  refine List.forall_mem_cons.mpr ⟨fun x => Unit.strips_emb arg14.view (fun r c => Unit.bb x0 x1 x2 r c) 1 (by decide) _ _ _ _ (by decide) _ _ _ _ _ _ x ?_ ?_ ?_ ?_, ?_⟩
  · exact fun y => Unit.unit_b' arg11.view harg2 harg3 harg4 x0 x1 x2 0 0 1 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 1 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 1 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 1 (by decide) (by decide) (by decide) _ _ _ _ _ _ _ _ _ _ _ _ _ _ _ _ _ _ _ _ y rfl rfl rfl rfl rfl rfl rfl rfl rfl rfl rfl rfl rfl rfl rfl rfl rfl rfl rfl
  refine List.forall_mem_cons.mpr ⟨fun x => Unit.strips_emb arg14.view (fun r c => Unit.bb x0 x1 x2 r c) 0 (by decide) _ _ _ _ (by decide) _ _ _ _ _ _ x ?_ ?_ ?_ ?_, ?_⟩
  · exact fun y => Unit.unit_b' arg11.view harg2 harg3 harg4 x0 x1 x2 0 0 0 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 0 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 0 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 0 (by decide) (by decide) (by decide) _ _ _ _ _ _ _ _ _ _ _ _ _ _ _ _ _ _ _ _ y rfl rfl rfl rfl rfl rfl rfl rfl rfl rfl rfl rfl rfl rfl rfl rfl rfl rfl rfl
  exact fun _ h => nomatch h

theorem sg_at (y : S1x1.Idx) : out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 y = Unit.gg x2 := by
  unfold out0_A_7
  rw [View.read_writes_junk_apply_eq_canon]
  refine View.canon_apply_of_pieces (Val := Elt Ideal) (e := .f32) (fun _ : S1x1.Idx => Unit.gg x2) _ ?_ y (cover0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 y)
  refine List.forall_mem_cons.mpr ⟨fun x => Unit.pay3_at harg4 x2 _ x, fun _ h => nomatch h⟩

theorem mx_at (y : S8x128.Idx) (b : EReal) : sout0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 y ≤ b ↔ 0 ≤ b ∧ ∀ t l : Fin 4, Unit.aa x0 x1 ⟨8 * t.val + (y 0).val, Unit.lt0 y t.isLt⟩ ⟨128 * l.val + (y 1).val, Unit.lt1 y l.isLt⟩ ≤ b := by
  unfold sout0_A_4
  rw [View.read_writes_junk_apply_eq_canon]
  refine (Unit.canon_whole_le _ _ _ y b).trans ?_
  apply Unit.mx_iff (A := fun t l => Unit.aa x0 x1 ⟨8 * t.val + (y 0).val, Unit.lt0 y t.isLt⟩ ⟨128 * l.val + (y 1).val, Unit.lt1 y l.isLt⟩)
  · exact rfl
  · exact Unit.load_zero arg15.view _ Unit.pay4 _ _ _ y
  · exact Unit.unit_a arg11.view harg2 harg3 x0 x1 0 0 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 0 0 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 0 0 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 0 0 3 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 3 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 3 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 3 (by decide) (by decide) (by decide) _ _ _ _ _ _ _ _ _ _ _ _ _ _ _ _ _ y rfl rfl rfl rfl rfl rfl rfl rfl rfl rfl rfl rfl rfl rfl rfl rfl

end Cert.BlockA

end
-- ==== Proof.BlockB.lean ====
/- What a point of case B leaves: the largest magnitudes, the block scales, the global scale and the running largest
   magnitude, as functions of the operand's block. -/
module

public import proofs.«01_k».proof.Proof.Gen.KernelXIdeal.Frame
public import proofs.«01_k».proof.Proof.Unit3

@[expose] public section

set_option maxRecDepth 16384
set_option maxHeartbeats 4000000

noncomputable section

namespace Cert.BlockB

open Cert.KernelXIdeal Cert.KernelXIdeal.Gen Idealize.ShloMosaic Idealize.ShloMosaic.TcCoe Idealize.SL.Sem Cert

variable (c : Dev nD) (i : grid0.Coords) (arg2 : Memref sig .tc .smem S16 .f32) (harg2 : arg2.IsWhole) (arg3 : Memref sig .tc .vmem S512x512 .bf16) (harg3 : arg3.IsWhole) (arg4 : Memref sig .tc .vmem S1x24 .f32) (harg4 : arg4.IsWhole) (arg5 : Memref sig .tc .vmem S512x512 .bf16) (harg5 : arg5.IsWhole) (arg6 : Memref sig .tc .vmem S32x512 .f32) (harg6 : arg6.IsWhole) (arg7 : Memref sig .tc .vmem S256x512 .i8) (harg7 : arg7.IsWhole) (arg8 : Memref sig .tc .vmem S32x512 .fp8e4m3) (harg8 : arg8.IsWhole) (arg9 : Memref sig .tc .vmem S1x1 .f32) (harg9 : arg9.IsWhole) (arg10 : Memref sig .tc .vmem S1x1 .f32) (harg10 : arg10.IsWhole) (arg11 : Memref sig .tc .vmem S4x144x128 .f32) (harg11 : arg11.IsWhole) (arg12 : Memref sig .tc .vmem S4x136x128 .f32) (harg12 : arg12.IsWhole) (arg13 : Memref sig .tc .vmem S4x8x128 .f32) (harg13 : arg13.IsWhole) (arg14 : Memref sig .tc .vmem S32x128 .f32) (harg14 : arg14.IsWhole) (arg15 : Memref sig .tc .vmem S8x128 .f32) (harg15 : arg15.IsWhole) (hc0 : ¬cond0_0 i) (hc1 : ¬cond0_1 i)
  (x0 : Vec Ideal S16 .f32) (x1 : Vec Ideal S512x512 .bf16) (x2 : Vec Ideal S1x24 .f32) (xs4 : Vec Ideal S8x128 .f32)

theorem a_at (y : S32x512.Idx) : out0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y = Unit.aa x0 x1 (y 0) (y 1) := by
  unfold out0_B_4
  rw [View.read_writes_junk_apply_eq_canon]
  refine View.canon_apply_of_pieces (Val := Elt Ideal) (e := .f32) (fun y : S32x512.Idx => Unit.aa x0 x1 (y 0) (y 1)) _ ?_ y (cover0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y)
  refine List.forall_mem_cons.mpr ⟨fun x => Unit.unit_a_emb arg11.view harg2 harg3 x0 x1 3 3 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 3 3 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 3 3 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 3 3 0 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 0 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 0 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 0 (by decide) (by decide) (by decide) _ _ _ _ _ _ _ _ _ _ _ _ _ _ _ _ _ (by decide) x rfl rfl rfl rfl rfl rfl rfl rfl rfl rfl rfl rfl rfl rfl rfl rfl, ?_⟩
  exact fun _ h => nomatch h

theorem sb_at (y : S32x512.Idx) : out0_B_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y = Unit.bb x0 x1 x2 (y 0) (y 1) := by
  unfold out0_B_6
  rw [View.read_writes_junk_apply_eq_canon]
  refine View.canon_apply_of_pieces (Val := Elt Ideal) (e := .fp8e4m3) (fun y : S32x512.Idx => Unit.bb x0 x1 x2 (y 0) (y 1)) _ ?_ y (cover0_B_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y)
  refine List.forall_mem_cons.mpr ⟨fun x => Unit.strips_emb arg14.view (fun r c => Unit.bb x0 x1 x2 r c) 3 (by decide) _ _ _ _ (by decide) _ _ _ _ _ _ x ?_ ?_ ?_ ?_, ?_⟩
  · exact fun y => Unit.unit_b' arg11.view harg2 harg3 harg4 x0 x1 x2 0 0 3 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 3 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 3 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 3 (by decide) (by decide) (by decide) _ _ _ _ _ _ _ _ _ _ _ _ _ _ _ _ _ _ _ _ y rfl rfl rfl rfl rfl rfl rfl rfl rfl rfl rfl rfl rfl rfl rfl rfl rfl rfl rfl
  refine List.forall_mem_cons.mpr ⟨fun x => Unit.strips_emb arg14.view (fun r c => Unit.bb x0 x1 x2 r c) 2 (by decide) _ _ _ _ (by decide) _ _ _ _ _ _ x ?_ ?_ ?_ ?_, ?_⟩
  · exact fun y => Unit.unit_b' arg11.view harg2 harg3 harg4 x0 x1 x2 0 0 2 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 2 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 2 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 2 (by decide) (by decide) (by decide) _ _ _ _ _ _ _ _ _ _ _ _ _ _ _ _ _ _ _ _ y rfl rfl rfl rfl rfl rfl rfl rfl rfl rfl rfl rfl rfl rfl rfl rfl rfl rfl rfl
  refine List.forall_mem_cons.mpr ⟨fun x => Unit.strips_emb arg14.view (fun r c => Unit.bb x0 x1 x2 r c) 1 (by decide) _ _ _ _ (by decide) _ _ _ _ _ _ x ?_ ?_ ?_ ?_, ?_⟩
  · exact fun y => Unit.unit_b' arg11.view harg2 harg3 harg4 x0 x1 x2 0 0 1 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 1 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 1 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 1 (by decide) (by decide) (by decide) _ _ _ _ _ _ _ _ _ _ _ _ _ _ _ _ _ _ _ _ y rfl rfl rfl rfl rfl rfl rfl rfl rfl rfl rfl rfl rfl rfl rfl rfl rfl rfl rfl
  refine List.forall_mem_cons.mpr ⟨fun x => Unit.strips_emb arg14.view (fun r c => Unit.bb x0 x1 x2 r c) 0 (by decide) _ _ _ _ (by decide) _ _ _ _ _ _ x ?_ ?_ ?_ ?_, ?_⟩
  · exact fun y => Unit.unit_b' arg11.view harg2 harg3 harg4 x0 x1 x2 0 0 0 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 0 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 0 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 0 (by decide) (by decide) (by decide) _ _ _ _ _ _ _ _ _ _ _ _ _ _ _ _ _ _ _ _ y rfl rfl rfl rfl rfl rfl rfl rfl rfl rfl rfl rfl rfl rfl rfl rfl rfl rfl rfl
  exact fun _ h => nomatch h

theorem sg_at (y : S1x1.Idx) : out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y = Unit.gg x2 := by
  unfold out0_B_7
  rw [View.read_writes_junk_apply_eq_canon]
  refine View.canon_apply_of_pieces (Val := Elt Ideal) (e := .f32) (fun _ : S1x1.Idx => Unit.gg x2) _ ?_ y (cover0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y)
  refine List.forall_mem_cons.mpr ⟨fun x => Unit.pay3_at harg4 x2 _ x, fun _ h => nomatch h⟩

theorem mx_at (y : S8x128.Idx) (b : EReal) : sout0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y ≤ b ↔ xs4 y ≤ b ∧ ∀ t l : Fin 4, Unit.aa x0 x1 ⟨8 * t.val + (y 0).val, Unit.lt0 y t.isLt⟩ ⟨128 * l.val + (y 1).val, Unit.lt1 y l.isLt⟩ ≤ b := by
  unfold sout0_B_4
  rw [View.read_writes_junk_apply_eq_canon]
  refine (Unit.canon_whole_le _ _ _ y b).trans ?_
  apply Unit.mx_iff (A := fun t l => Unit.aa x0 x1 ⟨8 * t.val + (y 0).val, Unit.lt0 y t.isLt⟩ ⟨128 * l.val + (y 1).val, Unit.lt1 y l.isLt⟩)
  · exact rfl
  · exact Unit.load_mx harg15 xs4 _ y
  · exact Unit.unit_a arg11.view harg2 harg3 x0 x1 0 0 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 0 0 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 0 0 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 0 0 3 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 3 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 3 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 3 (by decide) (by decide) (by decide) _ _ _ _ _ _ _ _ _ _ _ _ _ _ _ _ _ y rfl rfl rfl rfl rfl rfl rfl rfl rfl rfl rfl rfl rfl rfl rfl rfl

end Cert.BlockB

end
-- ==== Proof.BlockC.lean ====
/- What a point of case C leaves: the largest magnitudes, the block scales, the global scale and the running largest
   magnitude, as functions of the operand's block. -/
module

public import proofs.«01_k».proof.Proof.Gen.KernelXIdeal.Frame
public import proofs.«01_k».proof.Proof.Unit3

@[expose] public section

set_option maxRecDepth 16384
set_option maxHeartbeats 4000000

noncomputable section

namespace Cert.BlockC

open Cert.KernelXIdeal Cert.KernelXIdeal.Gen Idealize.ShloMosaic Idealize.ShloMosaic.TcCoe Idealize.SL.Sem Cert

variable (c : Dev nD) (i : grid0.Coords) (arg2 : Memref sig .tc .smem S16 .f32) (harg2 : arg2.IsWhole) (arg3 : Memref sig .tc .vmem S512x512 .bf16) (harg3 : arg3.IsWhole) (arg4 : Memref sig .tc .vmem S1x24 .f32) (harg4 : arg4.IsWhole) (arg5 : Memref sig .tc .vmem S512x512 .bf16) (harg5 : arg5.IsWhole) (arg6 : Memref sig .tc .vmem S32x512 .f32) (harg6 : arg6.IsWhole) (arg7 : Memref sig .tc .vmem S256x512 .i8) (harg7 : arg7.IsWhole) (arg8 : Memref sig .tc .vmem S32x512 .fp8e4m3) (harg8 : arg8.IsWhole) (arg9 : Memref sig .tc .vmem S1x1 .f32) (harg9 : arg9.IsWhole) (arg10 : Memref sig .tc .vmem S1x1 .f32) (harg10 : arg10.IsWhole) (arg11 : Memref sig .tc .vmem S4x144x128 .f32) (harg11 : arg11.IsWhole) (arg12 : Memref sig .tc .vmem S4x136x128 .f32) (harg12 : arg12.IsWhole) (arg13 : Memref sig .tc .vmem S4x8x128 .f32) (harg13 : arg13.IsWhole) (arg14 : Memref sig .tc .vmem S32x128 .f32) (harg14 : arg14.IsWhole) (arg15 : Memref sig .tc .vmem S8x128 .f32) (harg15 : arg15.IsWhole) (hc0 : ¬cond0_0 i) (hc1 : cond0_1 i)
  (x0 : Vec Ideal S16 .f32) (x1 : Vec Ideal S512x512 .bf16) (x2 : Vec Ideal S1x24 .f32) (xs4 : Vec Ideal S8x128 .f32)

theorem a_at (y : S32x512.Idx) : out0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y = Unit.aa x0 x1 (y 0) (y 1) := by
  unfold out0_C_4
  rw [View.read_writes_junk_apply_eq_canon]
  refine View.canon_apply_of_pieces (Val := Elt Ideal) (e := .f32) (fun y : S32x512.Idx => Unit.aa x0 x1 (y 0) (y 1)) _ ?_ y (cover0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y)
  refine List.forall_mem_cons.mpr ⟨fun x => Unit.unit_a_emb arg11.view harg2 harg3 x0 x1 3 3 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 3 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 3 3 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 2 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 3 3 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 1 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 3 3 0 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 2 2 0 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 1 1 0 (by decide) (by decide) (by decide) _ _ _ _ _ _ _ _ _ _ _ _ _ _ _ _ _ (by decide) x rfl rfl rfl rfl rfl rfl rfl rfl rfl rfl rfl rfl rfl rfl rfl rfl, ?_⟩
  refine List.forall_mem_cons.mpr ⟨fun x => Unit.unit_a_emb arg11.view harg2 harg3 x0 x1 0 0 0 (by decide) (by decide) (by decide) _ _ _ _ _ _ _ _ _ _ _ _ _ _ _ _ _ (by decide) x rfl rfl rfl rfl rfl rfl rfl rfl rfl rfl rfl rfl rfl rfl rfl rfl, ?_⟩
  exact fun _ h => nomatch h

theorem sb_at (y : S32x512.Idx) : out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y = Unit.bb x0 x1 x2 (y 0) (y 1) := by
  unfold out0_C_6
  rw [View.read_writes_junk_apply_eq_canon]
  refine View.canon_apply_of_pieces (Val := Elt Ideal) (e := .fp8e4m3) (fun y : S32x512.Idx => Unit.bb x0 x1 x2 (y 0) (y 1)) _ ?_ y (cover0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y)
  refine List.forall_mem_cons.mpr ⟨fun x => Unit.strips_emb arg14.view (fun r c => Unit.bb x0 x1 x2 r c) 3 (by decide) _ _ _ _ (by decide) _ _ _ _ _ _ x ?_ ?_ ?_ ?_, ?_⟩
  · exact fun y => Unit.unit_b' arg11.view harg2 harg3 harg4 x0 x1 x2 0 0 3 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 3 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 3 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 3 (by decide) (by decide) (by decide) _ _ _ _ _ _ _ _ _ _ _ _ _ _ _ _ _ _ _ _ y rfl rfl rfl rfl rfl rfl rfl rfl rfl rfl rfl rfl rfl rfl rfl rfl rfl rfl rfl
  refine List.forall_mem_cons.mpr ⟨fun x => Unit.strips_emb arg14.view (fun r c => Unit.bb x0 x1 x2 r c) 2 (by decide) _ _ _ _ (by decide) _ _ _ _ _ _ x ?_ ?_ ?_ ?_, ?_⟩
  · exact fun y => Unit.unit_b' arg11.view harg2 harg3 harg4 x0 x1 x2 0 0 2 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 2 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 2 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 2 (by decide) (by decide) (by decide) _ _ _ _ _ _ _ _ _ _ _ _ _ _ _ _ _ _ _ _ y rfl rfl rfl rfl rfl rfl rfl rfl rfl rfl rfl rfl rfl rfl rfl rfl rfl rfl rfl
  refine List.forall_mem_cons.mpr ⟨fun x => Unit.strips_emb arg14.view (fun r c => Unit.bb x0 x1 x2 r c) 1 (by decide) _ _ _ _ (by decide) _ _ _ _ _ _ x ?_ ?_ ?_ ?_, ?_⟩
  · exact fun y => Unit.unit_b' arg11.view harg2 harg3 harg4 x0 x1 x2 0 0 1 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 1 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 1 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 1 (by decide) (by decide) (by decide) _ _ _ _ _ _ _ _ _ _ _ _ _ _ _ _ _ _ _ _ y rfl rfl rfl rfl rfl rfl rfl rfl rfl rfl rfl rfl rfl rfl rfl rfl rfl rfl rfl
  refine List.forall_mem_cons.mpr ⟨fun x => Unit.strips_emb arg14.view (fun r c => Unit.bb x0 x1 x2 r c) 0 (by decide) _ _ _ _ (by decide) _ _ _ _ _ _ x ?_ ?_ ?_ ?_, ?_⟩
  · exact fun y => Unit.unit_b' arg11.view harg2 harg3 harg4 x0 x1 x2 0 0 0 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 1 1 0 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 2 2 0 (by decide) (by decide) (by decide) _ _ _ _ _ _ _ _ _ _ _ _ _ _ _ _ _ _ _ _ y rfl rfl rfl rfl rfl rfl rfl rfl rfl rfl rfl rfl rfl rfl rfl rfl rfl rfl rfl
  · exact fun y => Unit.unit_b' arg11.view harg2 harg3 harg4 x0 x1 x2 3 3 0 (by decide) (by decide) (by decide) _ _ _ _ _ _ _ _ _ _ _ _ _ _ _ _ _ _ _ _ y rfl rfl rfl rfl rfl rfl rfl rfl rfl rfl rfl rfl rfl rfl rfl rfl rfl rfl rfl
  exact fun _ h => nomatch h

theorem sg_at (y : S1x1.Idx) : out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y = Unit.gg x2 := by
  unfold out0_C_7
  rw [View.read_writes_junk_apply_eq_canon]
  refine View.canon_apply_of_pieces (Val := Elt Ideal) (e := .f32) (fun _ : S1x1.Idx => Unit.gg x2) _ ?_ y (cover0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y)
  refine List.forall_mem_cons.mpr ⟨fun x => Unit.pay3_at harg4 x2 _ x, fun _ h => nomatch h⟩

theorem mx_at (y : S8x128.Idx) (b : EReal) : sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y ≤ b ↔ xs4 y ≤ b ∧ ∀ t l : Fin 4, Unit.aa x0 x1 ⟨8 * t.val + (y 0).val, Unit.lt0 y t.isLt⟩ ⟨128 * l.val + (y 1).val, Unit.lt1 y l.isLt⟩ ≤ b := by
  unfold sout0_C_4
  rw [View.read_writes_junk_apply_eq_canon]
  refine (Unit.canon_whole_le _ _ _ y b).trans ?_
  apply Unit.mx_iff (A := fun t l => Unit.aa x0 x1 ⟨8 * t.val + (y 0).val, Unit.lt0 y t.isLt⟩ ⟨128 * l.val + (y 1).val, Unit.lt1 y l.isLt⟩)
  · exact rfl
  · exact Unit.load_mx harg15 xs4 _ y
  · exact Unit.unit_a arg11.view harg2 harg3 x0 x1 0 0 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 0 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 0 0 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 1 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 0 0 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 2 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 0 0 3 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 1 1 3 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 2 2 3 (by decide) (by decide) (by decide) _ _ _ _ _ _ _ _ _ _ _ _ _ _ _ _ _ y rfl rfl rfl rfl rfl rfl rfl rfl rfl rfl rfl rfl rfl rfl rfl rfl
  · exact Unit.unit_a arg11.view harg2 harg3 x0 x1 3 3 3 (by decide) (by decide) (by decide) _ _ _ _ _ _ _ _ _ _ _ _ _ _ _ _ _ y rfl rfl rfl rfl rfl rfl rfl rfl rfl rfl rfl rfl rfl rfl rfl rfl

theorem cur_at (z : S1x1.Idx) (b : EReal) : out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 z ≤ b ↔ ∀ y, sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs4 y ≤ b := by
  unfold out0_C_8 sout0_C_4
  rw [View.read_writes_junk_apply_eq_canon]
  refine (Unit.canon_whole1_le _ _ _ z b).trans ?_
  refine (Unit.cur_iff _ _ b).trans (forall_congr' fun y => ?_)
  rw [View.read_writes_junk_apply_eq_canon]
  exact (Unit.canon_cast_le _ _ _ y b).symm

end Cert.BlockC

end
-- ==== Proof.Points.lean ====
/- What each grid point of the quantise call leaves, and the running largest magnitude over all the points so far. -/
module

public import proofs.«01_k».proof.Proof.Gen.KernelXIdeal.Value
public import proofs.«01_k».proof.Proof.BlockA
public import proofs.«01_k».proof.Proof.BlockB
public import proofs.«01_k».proof.Proof.BlockC

@[expose] public section

set_option maxRecDepth 16384
set_option maxHeartbeats 4000000

noncomputable section

namespace Cert.Points

open Cert.KernelXIdeal Cert.KernelXIdeal.Gen Idealize.ShloMosaic Idealize.ShloMosaic.TcCoe Idealize.SL.Sem Cert

variable (m : (ℓ : Loc nD τ sig) → Buf (Elt Ideal) ℓ) (c : Dev nD)

/-- The largest magnitude a point computes for group `r` at column `q` of its block. -/
def am (t : Fin cfg0.N) (r : Fin 32) (q : Fin 512) : EReal := Unit.aa (iblk m c 0 t) (iblk m c 1 t) r q

theorem a_point (t : Fin cfg0.N) (y : S32x512.Idx) : (outsAt0 m c t.val t.isLt).2.1 y = am m c t (y 0) (y 1) := by
  by_cases h0 : t.val % 384 = 0
  · rw [outsAt0_A m c t h0 (by omega)]
    dsimp only
    exact BlockA.a_at ..
  · by_cases h1 : t.val % 384 = 383
    · rw [outsAt0_C m c t h0 h1]
      dsimp only
      exact BlockC.a_at ..
    · rw [outsAt0_B m c t h0 h1]
      dsimp only
      exact BlockB.a_at ..

theorem sb_point (t : Fin cfg0.N) (y : S32x512.Idx) : (outsAt0 m c t.val t.isLt).2.2.2.1 y
    = Unit.bb (iblk m c 0 t) (iblk m c 1 t) (iblk m c 2 t) (y 0) (y 1) := by
  by_cases h0 : t.val % 384 = 0
  · rw [outsAt0_A m c t h0 (by omega)]
    dsimp only
    exact BlockA.sb_at ..
  · by_cases h1 : t.val % 384 = 383
    · rw [outsAt0_C m c t h0 h1]
      dsimp only
      exact BlockC.sb_at ..
    · rw [outsAt0_B m c t h0 h1]
      dsimp only
      exact BlockB.sb_at ..

theorem sg_point (t : Fin cfg0.N) (y : S1x1.Idx) : (outsAt0 m c t.val t.isLt).2.2.2.2.1 y = Unit.gg (iblk m c 2 t) := by
  by_cases h0 : t.val % 384 = 0
  · rw [outsAt0_A m c t h0 (by omega)]
    dsimp only
    exact BlockA.sg_at ..
  · by_cases h1 : t.val % 384 = 383
    · rw [outsAt0_C m c t h0 h1]
      dsimp only
      exact BlockC.sg_at ..
    · rw [outsAt0_B m c t h0 h1]
      dsimp only
      exact BlockB.sg_at ..

/-- What one point adds to the bounds of the running largest magnitude at place `y`. -/
def Bnd (t : Fin cfg0.N) (y : S8x128.Idx) (b : EReal) : Prop :=
  ∀ p l : Fin 4, am m c t ⟨8 * p.val + (y 0).val, Unit.lt0 y p.isLt⟩ ⟨128 * l.val + (y 1).val, Unit.lt1 y l.isLt⟩ ≤ b

theorem mx_first (t : Fin cfg0.N) (h0 : t.val % 384 = 0) (y : S8x128.Idx) (b : EReal) :
    (outsAt0 m c t.val t.isLt).2.2.2.2.2.2 y ≤ b ↔ 0 ≤ b ∧ Bnd m c t y b := by
  rw [outsAt0_A m c t h0 (by omega)]
  dsimp only
  exact BlockA.mx_at ..

theorem mx_next (t : Fin cfg0.N) (h0 : ¬ t.val % 384 = 0) (y : S8x128.Idx) (b : EReal) :
    (outsAt0 m c t.val t.isLt).2.2.2.2.2.2 y ≤ b
      ↔ (outsAt0 m c (t.val - 1) (Nat.lt_of_le_of_lt (Nat.sub_le _ _) t.isLt)).2.2.2.2.2.2 y ≤ b ∧ Bnd m c t y b := by
  by_cases h1 : t.val % 384 = 383
  · rw [outsAt0_C m c t h0 h1]
    dsimp only
    exact BlockC.mx_at ..
  · rw [outsAt0_B m c t h0 h1]
    dsimp only
    exact BlockB.mx_at ..

theorem mx_all (n : ℕ) (hn : n < cfg0.N) (y : S8x128.Idx) (b : EReal) :
    (outsAt0 m c n hn).2.2.2.2.2.2 y ≤ b ↔ 0 ≤ b ∧ ∀ s (h : s < cfg0.N), s ≤ n → Bnd m c ⟨s, h⟩ y b := by
  induction n with
  | zero =>
    refine (mx_first m c ⟨0, hn⟩ (Nat.zero_mod _) y b).trans (and_congr_right fun _ => ⟨fun h s hs e => ?_, fun h => h 0 hn le_rfl⟩)
    obtain rfl : s = 0 := by omega
    exact h
  | succ n ih =>
    have hN : n + 1 < 384 := lt_of_lt_of_eq hn N_0
    refine (mx_next m c ⟨n + 1, hn⟩ (by show ¬ (n + 1) % 384 = 0; omega) y b).trans ?_
    refine (and_congr (ih (Nat.lt_of_succ_lt hn)) Iff.rfl).trans ⟨fun h => ⟨h.1.1, fun s hs e => ?_⟩, fun h =>
      ⟨⟨h.1, fun s hs e => h.2 s hs (by omega)⟩, h.2 _ hn le_rfl⟩⟩
    by_cases e' : s = n + 1
    · subst e'
      exact h.2
    · exact h.1.2 s hs (by omega)

theorem cur_point (t : Fin cfg0.N) (h1 : t.val % 384 = 383) (z : S1x1.Idx) (b : EReal) :
    (outsAt0 m c t.val t.isLt).2.2.2.2.2.1 z ≤ b ↔ ∀ y, (outsAt0 m c t.val t.isLt).2.2.2.2.2.2 y ≤ b := by
  rw [outsAt0_C m c t (by omega) h1]
  dsimp only
  exact BlockC.cur_at ..

end Cert.Points

end
-- ==== Proof.Arrays.lean ====
/- The quantise call's arrays after the run, as functions of the arguments. -/
module

public import proofs.«01_k».proof.Proof.Points
public import Idealize.ShloMosaic.Lib.Pipeline.ValueKit
public import Idealize.ShloMosaic.Lib.Pipeline.ReadBack
public import Idealize.ShloMosaic.Lib.Pointwise

@[expose] public section

set_option maxRecDepth 16384
set_option maxHeartbeats 4000000

noncomputable section

namespace Cert.Arrays

open Cert.KernelXIdeal Cert.KernelXIdeal.Gen Cert.KernelXIdeal.Value Idealize.ShloMosaic Idealize.ShloMosaic.TcCoe Idealize.SL.Sem Cert Cert.Points

variable (m : (ℓ : Loc nD τ sig) → Buf (Elt Ideal) ℓ) (c : Dev nD)

/-- The rotated values of group `g` of the rows at column `q`, and their largest magnitude. -/
def rv (x : FVec Ideal S16384x6144 .bf16) (s : FVec Ideal S16 .f32) (g : Fin 1024) (q : Fin 6144) : Fin 16 → EReal :=
  Had.rot (fun a b => a + b) (fun a b => a - b) fun j =>
    x (ix2 ⟨16 * g.val + j.val, by omega⟩ q) * (s (ix1 j) * Ideal.ofBits .f32 1048576000#32)
def ra (x : FVec Ideal S16384x6144 .bf16) (s : FVec Ideal S16 .f32) (g : Fin 1024) (q : Fin 6144) : EReal :=
  Unit.top (fun a : EReal => max a (-a)) max (rv x s g q)

theorem idx : ∀ t : Fin cfg0.N, win0_0.index t = ![0] ∧ win0_1.index t = ![t.val % 32, t.val / 32] ∧ win0_2.index t = ![0, 0] :=
  (by decide +kernel : ∀ t : Fin grid0.N, _)

/-- The arguments, as arrays. -/
abbrev X : FVec Ideal S16384x6144 .bf16 := m ((c : Thread nD τ).loc main_arg0)
abbrev S : FVec Ideal S16 .f32 := m ((c : Thread nD τ).loc main_arg1)
abbrev H : FVec Ideal S1x24 .f32 := m ((c : Thread nD τ).loc main_arg2)

theorem V_signs : V m c main_v1 = (mulf (S m c) (broadcastInDim S16 ![] bcast_S_S16 (constant S_ .f32 1048576000#32)) : FVec Ideal S16 .f32) := by
  unfold V
  simp only [hostOps0]
  after_results_simp

theorem lt32 (t : Fin cfg0.N) (r : Fin 32) : 32 * (t.val % 32) + r.val < 1024 := by omega
theorem lt512 (t : Fin cfg0.N) (q : Fin 512) : 512 * (t.val / 32) + q.val < 6144 := by
  have : t.val < 384 := lt_of_lt_of_eq t.isLt N_0
  omega

theorem blk0 (t : Fin cfg0.N) (j : Fin 16) : (iblk m c 0 t : Vec Ideal S16 .f32) (ix1 j)
    = S m c (ix1 j) * Ideal.ofBits .f32 1048576000#32 := by
  have e : (iblk m c 0 t : Vec Ideal S16 .f32) (ix1 j) = V m c main_v1 (ix1 j) := by
    blk_ext [iblk, idx t]
  rw [e, V_signs]
  pointwise

theorem blk1 (t : Fin cfg0.N) (p q : Fin 512) : (iblk m c 1 t : Vec Ideal S512x512 .bf16) (ix2 p q)
    = X m c (ix2 ⟨512 * (t.val % 32) + p.val, by omega⟩ ⟨512 * (t.val / 32) + q.val, lt512 t q⟩) := by
  have e : V m c main_arg0 = X m c := V_main_arg0 m c
  rw [← e]
  blk_ext [iblk, idx t]

theorem blk2 (t : Fin cfg0.N) : (iblk m c 2 t : Vec Ideal S1x24 .f32) = H m c := by
  have e : V m c main_arg2 = H m c := V_main_arg2 m c
  rw [← e]
  funext y
  blk_ext [iblk, idx t]

theorem am_eq (t : Fin cfg0.N) (r : Fin 32) (q : Fin 512) : am m c t r q
    = ra (X m c) (S m c) ⟨32 * (t.val % 32) + r.val, lt32 t r⟩ ⟨512 * (t.val / 32) + q.val, lt512 t q⟩ := by
  unfold am ra Unit.aa Unit.vv rv
  refine congrArg (fun v => Unit.top (fun a : EReal => max a (-a)) max (Had.rot (fun a b => a + b) (fun a b => a - b) v)) (funext fun j => ?_)
  rw [blk0, blk1]
  refine congrArg (fun z : EReal => z * _) (congrArg (X m c) (congrArg (fun z => ix2 z _) (Fin.ext ?_)))
  show 512 * (t.val % 32) + (16 * r.val + j.val) = 16 * (32 * (t.val % 32) + r.val) + j.val
  omega

/-- The block's point and the places in it. -/
theorem pt_lt (i : S1024x6144.Idx) : pt4Of i < cfg0.N := by
  have h0 : (i 0).val < 1024 := (i 0).isLt
  have h1 : (i 1).val < 6144 := (i 1).isLt
  rw [show cfg0.N = 384 from N_0]
  show 1 * ((i 0).val / 32 - 0) + 32 * ((i 1).val / 512 - 0) < 384
  omega

theorem pt_eq (i : S1024x6144.Idx) : pt4Of i = (i 0).val / 32 + 32 * ((i 1).val / 512) := by
  show 1 * ((i 0).val / 32 - 0) + 32 * ((i 1).val / 512 - 0) = _
  omega

theorem am_place (i : S1024x6144.Idx) : am m c ⟨pt4Of i, pt_lt i⟩ (loc4Of i 0) (loc4Of i 1) = ra (X m c) (S m c) (i 0) (i 1) := by
  have h0 : (i 0).val < 1024 := (i 0).isLt
  have h1 : (i 1).val < 6144 := (i 1).isLt
  refine (am_eq m c ⟨pt4Of i, pt_lt i⟩ (loc4Of i 0) (loc4Of i 1)).trans ?_
  refine congrArg₂ (ra (X m c) (S m c)) (Fin.ext ?_) (Fin.ext ?_)
  · show 32 * (pt4Of i % 32) + (i 0).val % 32 = (i 0).val
    rw [pt_eq]
    omega
  · show 512 * (pt4Of i / 32) + (i 1).val % 512 = (i 1).val
    rw [pt_eq]
    omega

theorem G4_at (i : S1024x6144.Idx) : G4 m c i = ra (X m c) (S m c) (i 0) (i 1) := by
  unfold G4
  rw [dif_pos (pt_lt i), ← outsAt0_sweep m c _ (pt_lt i)]
  exact (a_point m c ⟨pt4Of i, pt_lt i⟩ _).trans (am_place m c i)

theorem G6_at (i : S1024x6144.Idx) : G6 m c i = Quant.sb1 (ra (X m c) (S m c) (i 0) (i 1)) (Unit.gg (H m c)) := by
  unfold G6
  rw [dif_pos (pt_lt i), ← outsAt0_sweep m c _ (pt_lt i)]
  refine (sb_point m c ⟨pt4Of i, pt_lt i⟩ _).trans ?_
  unfold Unit.bb
  rw [blk2]
  exact congrArg (fun z => Quant.sb1 z _) (am_place m c i)

theorem last_lt : 383 < cfg0.N := lt_of_lt_of_eq (by decide) N_0.symm

theorem G7_at (i : S1x1.Idx) : G7 m c i = Unit.gg (H m c) := by
  have e : ∀ n (hn : n < cfg0.N), (outsAt0 m c n hn).2.2.2.2.1 i = Unit.gg (H m c) := fun n hn => by
    rw [← blk2 m c ⟨n, hn⟩]
    exact sg_point m c ⟨n, hn⟩ i
  rw [G7_last, ← outsAt0_sweep m c _ last_lt]
  exact e 383 last_lt

theorem ra_nonneg (x : FVec Ideal S16384x6144 .bf16) (s : FVec Ideal S16 .f32) (g : Fin 1024) (q : Fin 6144) : 0 ≤ ra x s g q := by
  have h : ∀ a : EReal, 0 ≤ max a (-a) := fun a => by
    rcases le_total 0 a with h | h
    · exact le_max_of_le_left h
    · exact le_max_of_le_right (EReal.neg_nonneg.mpr h)
  unfold ra Unit.top
  exact le_max_of_le_left (le_max_of_le_left (le_max_of_le_left (le_max_of_le_left (h _))))

theorem cur_le (n : ℕ) (hn : n < cfg0.N) (h1 : n = 383) (i : S1x1.Idx) (b : EReal) :
    (outsAt0 m c n hn).2.2.2.2.2.1 i ≤ b ↔ ∀ g q, ra (X m c) (S m c) g q ≤ b := by
  refine (cur_point m c ⟨n, hn⟩ (by show n % 384 = 383; omega) i b).trans ?_
  constructor
  · intro h g q
    have hg : g.val < 1024 := g.isLt
    have hq : q.val < 6144 := q.isLt
    have hp : g.val / 32 + 32 * (q.val / 512) < cfg0.N := by
      rw [show cfg0.N = 384 from N_0]
      omega
    have k := ((mx_all m c n hn (ix2 ⟨g.val % 8, Nat.mod_lt _ (by decide)⟩ ⟨q.val % 128, Nat.mod_lt _ (by decide)⟩) b).mp (h _)).2
      (g.val / 32 + 32 * (q.val / 512)) hp (by omega) ⟨g.val % 32 / 8, by omega⟩ ⟨q.val % 512 / 128, by omega⟩
    rw [am_eq] at k
    refine le_of_eq_of_le (congrArg₂ (ra (X m c) (S m c)) (Fin.ext ?_) (Fin.ext ?_)) k
    · show g.val = 32 * ((g.val / 32 + 32 * (q.val / 512)) % 32) + (8 * (g.val % 32 / 8) + g.val % 8)
      omega
    · show q.val = 512 * ((g.val / 32 + 32 * (q.val / 512)) / 32) + (128 * (q.val % 512 / 128) + q.val % 128)
      omega
  · intro h y
    refine (mx_all m c n hn y b).mpr ⟨le_trans (ra_nonneg _ _ _ _) (h 0 0), fun s hs _ p l => ?_⟩
    rw [am_eq]
    exact h _ _

/-- The call's largest magnitude: the least bound of every group's. -/
theorem G8_le (i : S1x1.Idx) (b v : EReal) (hv : G8 m c i = v) : v ≤ b ↔ ∀ g q, ra (X m c) (S m c) g q ≤ b := by
  subst hv
  rw [G8_last, ← outsAt0_sweep m c _ last_lt]
  exact cur_le m c 383 last_lt rfl i b

end Cert.Arrays

end
-- ==== Proof.RefX.lean ====
/- The reference of the quantise call over the extended reals: its results after the run, and that its sign-matrix product
   is the four rounds of sums and differences. -/
module

public import proofs.«01_k».proof.Proof.Gen.ReferenceXIdeal.Value
public import proofs.«01_k».proof.Proof.Arrays
public import Idealize.ShloMosaic.Lib.Pipeline.ValueKit
public import Idealize.ShloMosaic.Lib.Pipeline.ReadBack
public import Idealize.ShloMosaic.Lib.Pointwise

@[expose] public section

set_option maxRecDepth 16384
set_option maxHeartbeats 4000000

noncomputable section

namespace Cert.RefX

open Cert.ReferenceXIdeal Cert.ReferenceXIdeal.Gen Idealize.ShloMosaic Idealize.ShloMosaic.TcCoe Idealize.SL.Sem Cert

variable (m : (ℓ : Loc nD τ sig) → Buf (Elt Ideal) ℓ) (c : Dev nD)

/-- The host's matrix of signs. -/
def hm : FVec Ideal S16x16 .f32 :=
  select (cmpi .eq (andi (ctpop (andi
      (broadcastInDim S16x16 ![0, 1] bcast_S16x1_S16x16_0_1 (broadcastInDim S16x1 ![0] bcast_S16_S16x1_0 (iotaInDim S16 32 0)))
      (broadcastInDim S16x16 ![0, 1] bcast_S1x16_S16x16_0_1 (broadcastInDim S1x16 ![1] bcast_S16_S1x16_1 (iotaInDim S16 32 0)))))
      (broadcastInDim S16x16 ![] bcast_S_S16x16 (constantI S_ 32 1#32)))
    (broadcastInDim S16x16 ![] bcast_S_S16x16 (constantI S_ 32 1#32)))
    (broadcastInDim S16x16 ![] bcast_S_S16x16 (constant (F := Ideal) S_ .f32 3212836864#32))
    (broadcastInDim S16x16 ![] bcast_S_S16x16 (constant (F := Ideal) S_ .f32 1065353216#32))

/-- The host's rotated values, as a function of the operand and the signs. -/
def vMat (x : FVec Ideal S16384x6144 .bf16) (s : FVec Ideal S16 .f32) : FVec Ideal S1024x16x6144 .f32 :=
  transpose S1024x16x6144 [0, 2, 1]
      (Host.dotGeneral dot_S1024x16x6144_S16x16_S1024x6144x16_1_1_02_0_n_n (some ContractPrecision.fp32)
        (shapeCast S1024x16x6144 (extf .f32 x bitsLt_bf16_f32) shapeCasts_S16384x6144_S1024x16x6144)
        (Host.divf (mulf hm (broadcastInDim S16x16 ![0, 1] bcast_S1x16_S16x16_0_1 (broadcastInDim S1x16 ![1] bcast_S16_S1x16_1 s)))
          (broadcastInDim S16x16 ![] bcast_S_S16x16 (constant (F := Ideal) S_ .f32 1082130432#32))))
      transposes_S1024x6144x16_S1024x16x6144_0_2_1

theorem v22_eq : V m c main_v22 = vMat (m ((c : Thread nD τ).loc main_arg0)) (m ((c : Thread nD τ).loc main_arg1)) := by
  unfold V
  simp only [hostOps0, hostOps0_1, hostOps0_2, List.flatten_cons, List.flatten_nil, List.append_nil, List.cons_append, List.nil_append]
  after_results_simp
  rfl

theorem vMat_at (x : FVec Ideal S16384x6144 .bf16) (s : FVec Ideal S16 .f32) (g : Fin 1024) (i : Fin 16) (q : Fin 6144) :
    vMat x s (ix3 g i q) = ∑ j : Fin 16, x (ix2 ⟨g.val * 16 + j.val, by omega⟩ q) * Ideal.div (hm (ix2 i j) * s (ix1 j))
      (Ideal.ofBits .f32 1082130432#32) := by
  unfold vMat
  pointwise

theorem neg_one : Ideal.ofBits .f32 3212836864#32 = ((-1 : ℝ) : EReal) := by
  simp [Ideal.ofBits, Ideal.ieee, -EReal.coe_mul, -EReal.coe_neg]; norm_num

theorem four : Ideal.ofBits .f32 1082130432#32 = ((4 : ℝ) : EReal) := by
  simp [Ideal.ofBits, Ideal.ieee, -EReal.coe_mul]; norm_num

theorem quarter : Ideal.ofBits .f32 1048576000#32 = ((1 / 4 : ℝ) : EReal) := by
  simp [Ideal.ofBits, Ideal.ieee, -EReal.coe_mul]; norm_num

theorem odd_bit : ∀ i j : Fin 16, IntOp.cmpi .eq (IntOp.andi (IntOp.ctpop (IntOp.andi (BitVec.ofNat 32 i.val) (BitVec.ofNat 32 j.val))) 1#32) 1#32
    = if Had.odd i j then 1#1 else 0#1 := by decide +kernel

theorem hm_at (i j : Fin 16) : hm (ix2 i j) = ((Had.sgn i j : ℝ) : EReal) := by
  unfold hm
  pointwise
  rw [odd_bit, neg_one]
  unfold Had.sgn
  cases Had.odd i j <;> rfl

theorem coe_sum {n : ℕ} (f : Fin n → ℝ) : ((∑ j, f j : ℝ) : EReal) = ∑ j, (f j : EReal) := by
  induction n with
  | zero => simp
  | succ n ih => rw [Fin.sum_univ_succ, Fin.sum_univ_succ, EReal.coe_add, ih]

/-- An infinite extended real, of either sign. -/
def big (a : EReal) : Prop := max a (-a) = ⊤

theorem big_add (a b : EReal) : big (a + b) ↔ big a ∨ big b := by
  unfold big
  induction a <;> induction b <;> simp
  rw [← EReal.coe_add]
  exact EReal.coe_ne_top _

theorem big_neg (a : EReal) : big (-a) ↔ big a := by
  unfold big
  rw [neg_neg, max_comm]

theorem big_sub (a b : EReal) : big (a - b) ↔ big a ∨ big b := by
  rw [sub_eq_add_neg, big_add, big_neg]

/-- One infinite value makes every rotated value infinite. -/
theorem big_rot (v : Fin 16 → EReal) (j i : Fin 16) (h : big (v j)) : big (Had.rot (fun a b : EReal => a + b) (fun a b => a - b) v i) := by
  have k : big (v 0) ∨ big (v 1) ∨ big (v 2) ∨ big (v 3) ∨ big (v 4) ∨ big (v 5) ∨ big (v 6) ∨ big (v 7) ∨ big (v 8)
      ∨ big (v 9) ∨ big (v 10) ∨ big (v 11) ∨ big (v 12) ∨ big (v 13) ∨ big (v 14) ∨ big (v 15) := by
    fin_cases j <;> simp only [Fin.zero_eta, Fin.mk_one, Fin.reduceFinMk, Fin.isValue] at h <;> simp only [h, true_or, or_true]
  fin_cases i <;>
    (simp only [Had.rot, Had.round1, Had.round2, Had.round4, Had.round8, Fin.isValue, Fin.zero_eta, Fin.mk_one, Fin.reduceFinMk,
      Matrix.cons_val, big_add, big_sub]
     rcases k with h | h | h | h | h | h | h | h | h | h | h | h | h | h | h | h <;> simp only [h, true_or, or_true])

theorem big_sum (f : Fin 16 → EReal) (j : Fin 16) (h : big (f j)) : big (∑ j, f j) := by
  rw [← Finset.add_sum_erase Finset.univ f (Finset.mem_univ j)]
  exact (big_add _ _).mpr (Or.inl h)

/-- One value of a group times its sign and a quarter. -/
def tm (x : FVec Ideal S16384x6144 .bf16) (s : FVec Ideal S16 .f32) (g : Fin 1024) (q : Fin 6144) (j : Fin 16) : EReal :=
  x (ix2 ⟨16 * g.val + j.val, by omega⟩ q) * (s (ix1 j) * Ideal.ofBits .f32 1048576000#32)

theorem vMat_tm (x : FVec Ideal S16384x6144 .bf16) (s : FVec Ideal S16 .f32) (g : Fin 1024) (i : Fin 16) (q : Fin 6144) :
    vMat x s (ix3 g i q) = ∑ j : Fin 16, ((Had.sgn i j : ℝ) : EReal) * tm x s g q j := by
  rw [vMat_at]
  refine Finset.sum_congr rfl fun j _ => ?_
  unfold tm
  rw [show (⟨g.val * 16 + j.val, by omega⟩ : Fin 16384) = ⟨16 * g.val + j.val, by omega⟩ from Fin.ext (by show g.val * 16 + j.val = 16 * g.val + j.val; omega)]
  rw [hm_at, four, quarter, Ideal.div_coe (by norm_num), mul_assoc, mul_left_comm]

theorem big_sgn (i j : Fin 16) (a : EReal) (h : big a) : big (((Had.sgn i j : ℝ) : EReal) * a) := by
  unfold Had.sgn
  split
  · rw [EReal.coe_neg, EReal.coe_one, neg_one_mul]
    exact (big_neg a).mpr h
  · rw [EReal.coe_one, one_mul]
    exact h

/-- The host's rotated values have the magnitudes of the four rounds of sums and differences: equal where all sixteen terms
    are finite, and infinite both where one is not. -/
theorem vMat_mag (x : FVec Ideal S16384x6144 .bf16) (s : FVec Ideal S16 .f32) (g : Fin 1024) (i : Fin 16) (q : Fin 6144) :
    max (vMat x s (ix3 g i q) : EReal) (-(vMat x s (ix3 g i q))) = max (Arrays.rv x s g q i) (-(Arrays.rv x s g q i)) := by
  have e : Arrays.rv x s g q i = Had.rot (fun a b : EReal => a + b) (fun a b => a - b) (tm x s g q) i := rfl
  rw [e, vMat_tm]
  by_cases h : ∃ j, big (tm x s g q j)
  · obtain ⟨j, h⟩ := h
    exact (big_sum _ j (big_sgn i j _ h)).trans (big_rot _ j i h).symm
  · have f : ∀ j, tm x s g q j = ((EReal.toReal (tm x s g q j) : ℝ) : EReal) := fun j =>
      (EReal.coe_toReal (fun t => h ⟨j, by unfold big; rw [t]; exact top_sup_eq _⟩)
        (fun t => h ⟨j, by unfold big; rw [t, EReal.neg_bot]; exact sup_top_eq _⟩)).symm
    have k : tm x s g q = fun j => ((EReal.toReal (tm x s g q j) : ℝ) : EReal) := funext f
    have l : (∑ j : Fin 16, ((Had.sgn i j : ℝ) : EReal) * tm x s g q j) = Had.rot (fun a b : EReal => a + b) (fun a b => a - b) (tm x s g q) i := by
      rw [k, Had.rot_coe, Had.rot_sum, coe_sum]
      refine Finset.sum_congr rfl fun j _ => ?_
      rw [EReal.coe_mul]
    rw [l]

abbrev X : FVec Ideal S16384x6144 .bf16 := m ((c : Thread nD τ).loc main_arg0)
abbrev S : FVec Ideal S16 .f32 := m ((c : Thread nD τ).loc main_arg1)
abbrev H : FVec Ideal S1x24 .f32 := m ((c : Thread nD τ).loc main_arg2)

theorem idx : ∀ t : Fin cfg0.N, win0_0.index t = ![0, 0, 0] ∧ win0_1.index t = ![0, 0] ∧ win0_3.index t = ![0, 0] ∧ win0_5.index t = ![0, 0]
    ∧ win0_6.index t = ![0, 0] ∧ win0_7.index t = ![0, 0] :=
  (by decide +kernel : ∀ t : Fin grid0.N, _)

theorem blk0 (t : Fin cfg0.N) : (iblk m c 0 t : Vec Ideal S1024x16x6144 .f32) = vMat (X m c) (S m c) := by
  have e : V m c main_v22 = vMat (X m c) (S m c) := v22_eq m c
  rw [← e]
  funext y
  blk_ext [iblk, idx t]

theorem blk1 (t : Fin cfg0.N) : (iblk m c 1 t : Vec Ideal S1x24 .f32) = H m c := by
  have e : V m c main_arg2 = H m c := V_main_arg2 m c
  rw [← e]
  funext y
  blk_ext [iblk, idx t]

theorem ld0 (v : Vec Ideal S1024x16x6144 .f32) : View.ld v r0_0 = v :=
  View.ld_unit_zero (by funext a; fin_cases a <;> rfl) _ v
theorem ld1 (v : Vec Ideal S1x24 .f32) : View.ld v r0_1 = v :=
  View.ld_unit_zero (by funext a; fin_cases a <;> rfl) _ v

theorem emb_whole {s : Shape} (e : EltTy) (w : s.Idx → Elt Ideal e) (off : Fin s.rank → ℕ) (hoff : off = fun _ => 0)
    (h : ∀ a, off a + s.size a ≤ s.size a) (L : List (View.Piece (Elt Ideal) s e)) (y : s.Idx) :
    View.canon (⟨Rect.unit (s := s) off s.size h, w⟩ :: L) y = w y := by
  have k : (Rect.unit (s := s) off s.size h).emb y = y := by
    funext a
    refine Fin.ext ?_
    show off a + 1 * (y a).val = (y a).val
    rw [hoff]
    show 0 + 1 * (y a).val = (y a).val
    rw [one_mul, zero_add]
  have := View.canon_cons_emb (Val := Elt Ideal) (Rect.unit (s := s) off s.size h) w L y
  rwa [k] at this

theorem zz : (![0, 0] : Fin 2 → ℕ) = fun _ => 0 := by funext a; fin_cases a <;> rfl

theorem final3 : (dats m 0 c).arrAt 3 cfg0.N = k0_pay5 (F := Ideal) (vMat (X m c) (S m c)) := by
  refine (dats m 0 c).arrAt_eq_of_covers 3 _ (by decide +kernel) fun t hf y => ?_
  blk_simp
  rw [after0_3, blk0, blk1]
  refine (emb_whole .f32 (k0_pay15 (F := Ideal) _ _) _ zz _ [] y).trans ?_
  unfold k0_pay15
  rw [ld0]
  refine congrArg (k0_pay5 (F := Ideal) _) (funext fun a => Fin.ext ?_)
  fin_cases a
  · show (y 0).val = win0_3.index t 0 * 1024 + 1 * (y 0).val
    rw [(idx t).2.2.1]
    show (y 0).val = 0 * 1024 + 1 * (y 0).val
    omega
  · show (y 1).val = win0_3.index t 1 * 6144 + 1 * (y 1).val
    rw [(idx t).2.2.1]
    show (y 1).val = 0 * 6144 + 1 * (y 1).val
    omega

theorem final5 : (dats m 0 c).arrAt 5 cfg0.N = k0_pay7 (F := Ideal) (vMat (X m c) (S m c)) (H m c) := by
  refine (dats m 0 c).arrAt_eq_of_covers 5 _ (by decide +kernel) fun t hf y => ?_
  blk_simp
  rw [after0_5, blk0, blk1]
  refine (emb_whole .fp8e4m3 (k0_pay16 (F := Ideal) _ _) _ zz _ [] y).trans ?_
  unfold k0_pay16
  rw [ld0, ld1]
  refine congrArg (k0_pay7 (F := Ideal) _ _) (funext fun a => Fin.ext ?_)
  fin_cases a
  · show (y 0).val = win0_5.index t 0 * 1024 + 1 * (y 0).val
    rw [(idx t).2.2.2.1]
    show (y 0).val = 0 * 1024 + 1 * (y 0).val
    omega
  · show (y 1).val = win0_5.index t 1 * 6144 + 1 * (y 1).val
    rw [(idx t).2.2.2.1]
    show (y 1).val = 0 * 6144 + 1 * (y 1).val
    omega

theorem final6 : (dats m 0 c).arrAt 6 cfg0.N = k0_pay6 (F := Ideal) (H m c) := by
  refine (dats m 0 c).arrAt_eq_of_covers 6 _ (by decide +kernel) fun t hf y => ?_
  blk_simp
  rw [after0_6, blk0, blk1]
  refine (emb_whole .f32 (k0_pay6 (F := Ideal) _) _ zz _ [] y).trans ?_
  rw [ld1]
  refine congrArg (k0_pay6 (F := Ideal) _) (funext fun a => Fin.ext ?_)
  fin_cases a
  · show (y 0).val = win0_6.index t 0 * 1 + 1 * (y 0).val
    rw [(idx t).2.2.2.2.1]
    show (y 0).val = 0 * 1 + 1 * (y 0).val
    omega
  · show (y 1).val = win0_6.index t 1 * 1 + 1 * (y 1).val
    rw [(idx t).2.2.2.2.1]
    show (y 1).val = 0 * 1 + 1 * (y 1).val
    omega

theorem final7 : (dats m 0 c).arrAt 7 cfg0.N = k0_pay3 (F := Ideal) (k0_pay5 (vMat (X m c) (S m c))) := by
  refine (dats m 0 c).arrAt_eq_of_covers 7 _ (by decide +kernel) fun t hf y => ?_
  blk_simp
  rw [after0_7, blk0, blk1]
  refine (emb_whole .f32 (k0_pay3 (F := Ideal) (k0_pay15 _ _)) _ zz _ [] y).trans ?_
  unfold k0_pay15
  rw [ld0]
  refine congrArg (k0_pay3 (F := Ideal) _) (funext fun a => Fin.ext ?_)
  fin_cases a
  · show (y 0).val = win0_7.index t 0 * 1 + 1 * (y 0).val
    rw [(idx t).2.2.2.2.2]
    show (y 0).val = 0 * 1 + 1 * (y 0).val
    omega
  · show (y 1).val = win0_7.index t 1 * 1 + 1 * (y 1).val
    rw [(idx t).2.2.2.2.2]
    show (y 1).val = 0 * 1 + 1 * (y 1).val
    omega

theorem bot : Ideal.ofBits .f32 4286578688#32 = ⊥ := by simp [Ideal.ofBits, Ideal.ieee]

theorem pay5_le (v : FVec Ideal S1024x16x6144 .f32) (g : Fin 1024) (q : Fin 6144) (b : EReal) :
    (k0_pay5 (F := Ideal) v (ix2 g q) : EReal) ≤ b ↔ ∀ i : Fin 16, max (v (ix3 g i q)) (-(v (ix3 g i q))) ≤ b := by
  unfold k0_pay5 k0_pay4
  rw [shapeCast_self]
  pointwise
  rw [bot]
  refine (Finset.fold_max_le b).trans ⟨fun h i => h.2 i (Finset.mem_univ _), fun h => ⟨bot_le, fun i _ => h i⟩⟩

theorem pay3_le (a : FVec Ideal S1024x6144 .f32) (z : S1x1.Idx) (b : EReal) :
    (k0_pay3 (F := Ideal) a z : EReal) ≤ b ↔ ∀ g q, a (ix2 g q) ≤ b := by
  unfold k0_pay3
  pointwise
  rw [bot]
  refine (Finset.fold_max_le b).trans ⟨fun h g q => ((Finset.fold_max_le b).mp (h.2 g (Finset.mem_univ _))).2 q (Finset.mem_univ _),
    fun h => ⟨bot_le, fun g _ => (Finset.fold_max_le b).mpr ⟨bot_le, fun q _ => h g q⟩⟩⟩

theorem pay6_eq (h : Vec Ideal S1x24 .f32) (z : S1x1.Idx) : k0_pay6 (F := Ideal) h z = Unit.gg h := by
  obtain rfl : z = ix2 0 0 := funext fun a => Fin.ext (by
    fin_cases a
    · have : (z 0).val < 1 := (z 0).isLt
      show (z 0).val = 0; omega
    · have : (z 1).val < 1 := (z 1).isLt
      show (z 1).val = 0; omega)
  rfl

theorem pay7_eq (v : FVec Ideal S1024x16x6144 .f32) (h : Vec Ideal S1x24 .f32) (g : Fin 1024) (q : Fin 6144) :
    k0_pay7 (F := Ideal) v h (ix2 g q) = Quant.sb1 (k0_pay5 (F := Ideal) v (ix2 g q)) (Unit.gg h) := by
  have e : broadcastTo S1024x6144 (k0_pay6 (F := Ideal) h) broadcasts_S1x1_S1024x6144 (ix2 g q) = Unit.gg h := by
    rw [broadcastTo_apply _ _ _ (ix2 0 0) (fun a => by fin_cases a <;> rfl), pay6_eq]
  rw [← e]
  rfl

theorem top_le (ab : EReal → EReal) (v : Fin 16 → EReal) (b : EReal) : Unit.top ab max v ≤ b ↔ ∀ i, ab (v i) ≤ b := by
  unfold Unit.top
  simp only [max_le_iff]
  constructor
  · rintro ⟨⟨⟨⟨h0, h1⟩, h2, h3⟩, ⟨h4, h5⟩, h6, h7⟩, ⟨⟨h8, h9⟩, h10, h11⟩, ⟨h12, h13⟩, h14, h15⟩ i
    fin_cases i <;> assumption
  · exact fun h => ⟨⟨⟨⟨h 0, h 1⟩, h 2, h 3⟩, ⟨h 4, h 5⟩, h 6, h 7⟩, ⟨⟨h 8, h 9⟩, h 10, h 11⟩, ⟨h 12, h 13⟩, h 14, h 15⟩

/-- The reference's largest magnitudes are the kernel's. -/
theorem pay5_eq (x : FVec Ideal S16384x6144 .bf16) (s : FVec Ideal S16 .f32) (g : Fin 1024) (q : Fin 6144) :
    k0_pay5 (F := Ideal) (vMat x s) (ix2 g q) = Arrays.ra x s g q := by
  have k : ∀ b : EReal, (k0_pay5 (F := Ideal) (vMat x s) (ix2 g q) : EReal) ≤ b ↔ Arrays.ra x s g q ≤ b := fun b => by
    refine (pay5_le _ g q b).trans ((top_le _ _ b).trans (forall_congr' fun i => ?_)).symm
    rw [vMat_mag]
  exact le_antisymm ((k _).mpr le_rfl) ((k _).mp le_rfl)

end Cert.RefX

end
-- ==== Proof.Scales.lean ====
/- The quantise call against its reference: the block maxima, block scales, global scale and the largest magnitude of all. -/
module

public import proofs.«01_k».proof.Proof.RefX
public import proofs.«01_k».proof.On_scales

@[expose] public section

set_option maxRecDepth 16384

noncomputable section

namespace Cert.Scales

open Idealize.ShloMosaic Idealize.ShloMosaic.TcCoe Idealize.SL.Sem Cert

/-- The mask's side conditions. -/
theorem mask_facts : Cert.On_scales.Facts where
  bcast_S_S6144x16384 := by decide
  bcast_S_S1024x6144 := by decide
  bcast_S_S8192x6144 := by decide
  bcast_S_S1x1 := by decide

theorem pay7_ra (x : FVec Ideal ReferenceXIdeal.S16384x6144 .bf16) (s : FVec Ideal ReferenceXIdeal.S16 .f32) (h : Vec Ideal ReferenceXIdeal.S1x24 .f32)
    (g : Fin 1024) (q : Fin 6144) : ReferenceXIdeal.Gen.k0_pay7 (F := Ideal) (RefX.vMat x s) h (ix2 g q) = Quant.sb1 (Arrays.ra x s g q) (Unit.gg h) := by
  rw [RefX.pay7_eq, RefX.pay5_eq]

variable (m : (ℓ : Loc KernelXIdeal.nD KernelXIdeal.τ KernelXIdeal.sig) → Buf (Elt Ideal) ℓ)
  (m' : (ℓ : Loc ReferenceXIdeal.nD ReferenceXIdeal.τ ReferenceXIdeal.sig) → Buf (Elt Ideal) ℓ) (c : Dev KernelXIdeal.nD)
  (hx : RefX.X m' c = Arrays.X m c) (hs : RefX.S m' c = Arrays.S m c) (hh : RefX.H m' c = Arrays.H m c)

include hx hs in
theorem a_eq : (ReferenceXIdeal.Gen.dats m' 0 c).arrAt 3 ReferenceXIdeal.cfg0.N = KernelXIdeal.Value.G4 m c := by
  rw [RefX.final3, hx, hs]
  funext i
  rw [Arrays.G4_at, eq_ix2 i]
  exact RefX.pay5_eq _ _ _ _

include hx hs hh in
theorem sb_eq : (ReferenceXIdeal.Gen.dats m' 0 c).arrAt 5 ReferenceXIdeal.cfg0.N = KernelXIdeal.Value.G6 m c := by
  rw [RefX.final5, hx, hs, hh]
  funext i
  rw [Arrays.G6_at, eq_ix2 i]
  exact pay7_ra _ _ _ _ _

include hh in
theorem sg_eq : (ReferenceXIdeal.Gen.dats m' 0 c).arrAt 6 ReferenceXIdeal.cfg0.N = KernelXIdeal.Value.G7 m c := by
  rw [RefX.final6, hh]
  funext i
  rw [Arrays.G7_at]
  exact RefX.pay6_eq _ _

include hx hs in
theorem cur_eq : (ReferenceXIdeal.Gen.dats m' 0 c).arrAt 7 ReferenceXIdeal.cfg0.N = KernelXIdeal.Value.G8 m c := by
  rw [RefX.final7, hx, hs]
  funext i
  have k : ∀ v : EReal, KernelXIdeal.Value.G8 m c i = v →
      (ReferenceXIdeal.Gen.k0_pay3 (F := Ideal) (ReferenceXIdeal.Gen.k0_pay5 (RefX.vMat (Arrays.X m c) (Arrays.S m c))) i : EReal) = v := fun v hv => by
    have e : ∀ b : EReal, (ReferenceXIdeal.Gen.k0_pay3 (F := Ideal) (ReferenceXIdeal.Gen.k0_pay5 (RefX.vMat (Arrays.X m c) (Arrays.S m c))) i : EReal) ≤ b
        ↔ v ≤ b := fun b => by
      refine (RefX.pay3_le _ i b).trans (Iff.trans ?_ (Arrays.G8_le m c i b v hv).symm)
      refine forall_congr' fun g => forall_congr' fun q => ?_
      rw [RefX.pay5_eq]
    exact le_antisymm ((e _).mpr le_rfl) ((e _).mp le_rfl)
  exact k _ rfl

end Cert.Scales

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Product
public import proofs.«01_k».proof.Proof.Gen.KernelX.Frame
public import proofs.«01_k».proof.Proof.Gen.KernelXIdeal.Value
public import proofs.«01_k».proof.Proof.Gen.ReferenceXIdeal.Value
public import proofs.«01_k».proof.Proof.Scales
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, (θ_run Cert.KernelIdeal.defs _ _).mono (fun _ h c => ⟨(h c).1.trans (Cert.Product.final m c), (h c).2⟩)
    (Cert.KernelIdeal.Value.run_blocks (F := Ideal) m ρ), ?_⟩
  refine (θ_run Cert.ReferenceIdeal.defs _ _).mono (fun _ h c => ⟨?_, (h c).2⟩) (Cert.ReferenceIdeal.Value.run (F := Ideal) m' ρ')
  rw [(h c).1]
  rw [(hagree c).1, (hagree c).2.1, (hagree c).2.2.1, (hagree c).2.2.2]
  exact Cert.Product.ref_eq _ _ _ _

theorem unset : ¬ ((0#1 : BitVec 1) = 1#1) := by decide

theorem algebraic_KernelXIdeal_ReferenceXIdeal_on_scales :
    algebraic_KernelXIdeal_ReferenceXIdeal_on_scales (hOn_scales := Cert.Scales.mask_facts) := by
  intro m ρ m' ρ' _ hagree
  refine ⟨fun c => Cert.KernelXIdeal.Value.G3 m c, fun c => Cert.KernelXIdeal.Value.G4 m c, fun c => Cert.KernelXIdeal.Value.G5 m c,
    fun c => Cert.KernelXIdeal.Value.G6 m c, fun c => Cert.KernelXIdeal.Value.G7 m c, fun c => Cert.KernelXIdeal.Value.G8 m c, ?_, ?_⟩
  · refine (θ_run Cert.KernelXIdeal.defs _ _).mono (fun _ h c => ?_) (Cert.KernelXIdeal.Value.run m ρ)
    obtain ⟨h0, h1, h2, h3, h4, h5, h6⟩ := h c
    exact ⟨fun i _ => congrFun h0 i, fun i _ => congrFun h1 i, fun i _ => congrFun h2 i, fun i _ => congrFun h3 i,
      fun i _ => congrFun h4 i, fun i _ => congrFun h5 i, h6⟩
  · refine (θ_run Cert.ReferenceXIdeal.defs _ _).mono (fun _ h c => ?_) (Cert.ReferenceXIdeal.Value.run_blocks (F := Ideal) m' ρ')
    obtain ⟨_, h1, _, h3, h4, h5, h6⟩ := h c
    obtain ⟨hx, hs, hh⟩ := hagree c
    exact ⟨fun _ k => (unset k).elim, fun i _ => congrFun (h1.trans (Cert.Scales.a_eq m m' c hx hs)) i,
      fun _ k => (unset k).elim, fun i _ => congrFun (h3.trans (Cert.Scales.sb_eq m m' c hx hs hh)) i,
      fun i _ => congrFun (h4.trans (Cert.Scales.sg_eq m m' c hh)) i, fun i _ => congrFun (h5.trans (Cert.Scales.cur_eq m m' c hx hs)) i, h6⟩

theorem claim : Cert.Claim := ⟨Cert.Kernel.Gen.facts, Cert.KernelIdeal.Gen.facts, Cert.ReferenceIdeal.Gen.facts,
  Cert.KernelX.Gen.facts, Cert.KernelXIdeal.Gen.facts, Cert.ReferenceXIdeal.Gen.facts, Cert.Scales.mask_facts,
  fun m ρ _ => Cert.Kernel.Gen.frame m ρ, fun m ρ _ => Cert.KernelIdeal.Gen.frame m ρ, quiescent_ReferenceIdeal,
  fun m ρ _ => Cert.KernelX.Gen.frame m ρ, fun m ρ _ => Cert.KernelXIdeal.Gen.frame m ρ, fun m ρ _ => Cert.ReferenceXIdeal.Gen.frame m ρ,
  (trivial : preserves_Kernel_KernelIdeal), algebraic_KernelIdeal_ReferenceIdeal, (trivial : preserves_KernelX_KernelXIdeal),
  algebraic_KernelXIdeal_ReferenceXIdeal_on_scales⟩

end Cert.Proof

end
